-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v75_0)) (v1 : (c : Dev Cert.Kernel5Ideal.nD) → Buf (Elt Ideal) ((c.tc : Thread Cert.Kernel5Ideal.nD Cert.Kernel5Ideal.τ).loc Cert.Kernel5Ideal.main_v75_1)) (v2 : (c : Dev Cert.Kernel5Ideal.nD) → Buf (Elt Ideal) ((c.tc : Thread Cert.Kernel5Ideal.nD Cert.Kernel5Ideal.τ).loc Cert.Kernel5Ideal.main_v75_2)) (v3 : (c : Dev Cert.Kernel5Ideal.nD) → Buf (Elt Ideal) ((c.tc : Thread Cert.Kernel5Ideal.nD Cert.Kernel5Ideal.τ).loc Cert.Kernel5Ideal.main_v75_3)) (v4 : (c : Dev Cert.Kernel5Ideal.nD) → Buf (Elt Ideal) ((c.tc : Thread Cert.Kernel5Ideal.nD Cert.Kernel5Ideal.τ).loc Cert.Kernel5Ideal.main_v75_4)) (v5 : (c : Dev Cert.Kernel5Ideal.nD) → Buf (Elt Ideal) ((c.tc : Thread Cert.Kernel5Ideal.nD Cert.Kernel5Ideal.τ).loc Cert.Kernel5Ideal.main_v75_5)) (v6 : (c : Dev Cert.Kernel5Ideal.nD) → Buf (Elt Ideal) ((c.tc : Thread Cert.Kernel5Ideal.nD Cert.Kernel5Ideal.τ).loc Cert.Kernel5Ideal.main_v75_6)) (v7 : (c : Dev Cert.Kernel5Ideal.nD) → Buf (Elt Ideal) ((c.tc : Thread Cert.Kernel5Ideal.nD Cert.Kernel5Ideal.τ).loc Cert.Kernel5Ideal.main_v75_7)) (v8 : (c : Dev Cert.Kernel5Ideal.nD) → Buf (Elt Ideal) ((c.tc : Thread Cert.Kernel5Ideal.nD Cert.Kernel5Ideal.τ).loc Cert.Kernel5Ideal.main_v75_8)) (v9 : (c : Dev Cert.Kernel5Ideal.nD) → Buf (Elt Ideal) ((c.tc : Thread Cert.Kernel5Ideal.nD Cert.Kernel5Ideal.τ).loc Cert.Kernel5Ideal.main_v75_9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v75_0) = v0 c
          ∧ r.2.mem ((c.tc : Thread Cert.Kernel5Ideal.nD Cert.Kernel5Ideal.τ).loc Cert.Kernel5Ideal.main_v75_1) = v1 c
          ∧ r.2.mem ((c.tc : Thread Cert.Kernel5Ideal.nD Cert.Kernel5Ideal.τ).loc Cert.Kernel5Ideal.main_v75_2) = v2 c
          ∧ r.2.mem ((c.tc : Thread Cert.Kernel5Ideal.nD Cert.Kernel5Ideal.τ).loc Cert.Kernel5Ideal.main_v75_3) = v3 c
          ∧ r.2.mem ((c.tc : Thread Cert.Kernel5Ideal.nD Cert.Kernel5Ideal.τ).loc Cert.Kernel5Ideal.main_v75_4) = v4 c
          ∧ r.2.mem ((c.tc : Thread Cert.Kernel5Ideal.nD Cert.Kernel5Ideal.τ).loc Cert.Kernel5Ideal.main_v75_5) = v5 c
          ∧ r.2.mem ((c.tc : Thread Cert.Kernel5Ideal.nD Cert.Kernel5Ideal.τ).loc Cert.Kernel5Ideal.main_v75_6) = v6 c
          ∧ r.2.mem ((c.tc : Thread Cert.Kernel5Ideal.nD Cert.Kernel5Ideal.τ).loc Cert.Kernel5Ideal.main_v75_7) = v7 c
          ∧ r.2.mem ((c.tc : Thread Cert.Kernel5Ideal.nD Cert.Kernel5Ideal.τ).loc Cert.Kernel5Ideal.main_v75_8) = v8 c
          ∧ r.2.mem ((c.tc : Thread Cert.Kernel5Ideal.nD Cert.Kernel5Ideal.τ).loc Cert.Kernel5Ideal.main_v75_9) = v9 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v145) = v0 c
          ∧ r.2.mem ((c.tc : Thread Cert.Reference5Ideal.nD Cert.Reference5Ideal.τ).loc Cert.Reference5Ideal.main_v146) = v1 c
          ∧ r.2.mem ((c.tc : Thread Cert.Reference5Ideal.nD Cert.Reference5Ideal.τ).loc Cert.Reference5Ideal.main_v147) = v2 c
          ∧ r.2.mem ((c.tc : Thread Cert.Reference5Ideal.nD Cert.Reference5Ideal.τ).loc Cert.Reference5Ideal.main_v150) = v3 c
          ∧ r.2.mem ((c.tc : Thread Cert.Reference5Ideal.nD Cert.Reference5Ideal.τ).loc Cert.Reference5Ideal.main_v152) = v4 c
          ∧ r.2.mem ((c.tc : Thread Cert.Reference5Ideal.nD Cert.Reference5Ideal.τ).loc Cert.Reference5Ideal.main_v155) = v5 c
          ∧ r.2.mem ((c.tc : Thread Cert.Reference5Ideal.nD Cert.Reference5Ideal.τ).loc Cert.Reference5Ideal.main_v158) = v6 c
          ∧ r.2.mem ((c.tc : Thread Cert.Reference5Ideal.nD Cert.Reference5Ideal.τ).loc Cert.Reference5Ideal.main_v161) = v7 c
          ∧ r.2.mem ((c.tc : Thread Cert.Reference5Ideal.nD Cert.Reference5Ideal.τ).loc Cert.Reference5Ideal.main_v163) = v8 c
          ∧ r.2.mem ((c.tc : Thread Cert.Reference5Ideal.nD Cert.Reference5Ideal.τ).loc Cert.Reference5Ideal.main_v165) = v9 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S16384x1024 : Shape := ⟨2, ![16384, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S128x8 : Shape := ⟨2, ![128, 8]⟩
abbrev S128x8x256 : Shape := ⟨3, ![128, 8, 256]⟩
abbrev S128x2048 : Shape := ⟨2, ![128, 2048]⟩
abbrev S1x1024 : Shape := ⟨2, ![1, 1024]⟩
abbrev S1x2048 : Shape := ⟨2, ![1, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x2048 : Shape := ⟨2, ![1024, 2048]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 17
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S2048, .f32⟩
  | .hbm, ⟨4, _⟩ => ⟨S2048, .f32⟩
  | .hbm, ⟨5, _⟩ => ⟨S8x128x128, .f32⟩
  | .hbm, ⟨6, _⟩ => ⟨S8x128, .f32⟩
  | .hbm, ⟨7, _⟩ => ⟨S2048x1024, .f32⟩
  | .hbm, ⟨8, _⟩ => ⟨S128x8, .f32⟩
  | .hbm, ⟨9, _⟩ => ⟨S128x8x256, .f32⟩
  | .hbm, ⟨10, _⟩ => ⟨S128x2048, .f32⟩
  | .hbm, ⟨11, _⟩ => ⟨S1x1024, .f32⟩
  | .hbm, ⟨12, _⟩ => ⟨S1024x4096, .bf16⟩
  | .hbm, ⟨13, _⟩ => ⟨S1x2048, .f32⟩
  | .hbm, ⟨14, _⟩ => ⟨S1x2048, .f32⟩
  | .hbm, ⟨15, _⟩ => ⟨S2048x1024, .bf16⟩
  | .hbm, ⟨16, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S128x2048, .f32⟩
  | .local _ .vmem, ⟨8, _⟩ => ⟨S2048x1024, .bf16⟩
  | .local _ .vmem, ⟨9, _⟩ => ⟨S512x1024, .f32⟩
  | .local _ .vmem, ⟨10, _⟩ => ⟨S512x1024, .f32⟩
  | .local _ .vmem, ⟨11, _⟩ => ⟨S512x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16384x1024 : Shape := ⟨2, ![16384, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S1x16384x1024 : Shape := ⟨3, ![1, 16384, 1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x4096 : Shape := ⟨3, ![1, 16384, 4096]⟩
abbrev S1x16384x2048 : Shape := ⟨3, ![1, 16384, 2048]⟩
abbrev S1x1x2048 : Shape := ⟨3, ![1, 1, 2048]⟩
abbrev S1x128x128x8x256 : Shape := ⟨5, ![1, 128, 128, 8, 256]⟩
abbrev S128x128 : Shape := ⟨2, ![128, 128]⟩
abbrev S1x128x128 : Shape := ⟨3, ![1, 128, 128]⟩
abbrev S8x1x128x256x128 : Shape := ⟨5, ![8, 1, 128, 256, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 101
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S2048, .f32⟩
  | .hbm, ⟨4, _⟩ => ⟨S2048, .f32⟩
  | .hbm, ⟨5, _⟩ => ⟨S8x128x128, .f32⟩
  | .hbm, ⟨6, _⟩ => ⟨S8x128, .f32⟩
  | .hbm, ⟨7, _⟩ => ⟨S2048x1024, .f32⟩
  | .hbm, ⟨8, _⟩ => ⟨S1x16384x1024, .f32⟩
  | .hbm, ⟨9, _⟩ => ⟨S1x16384x1024, .f32⟩
  | .hbm, ⟨10, _⟩ => ⟨S_, .f32⟩
  | .hbm, ⟨11, _⟩ => ⟨S1x16384, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S_, .f32⟩
  | .hbm, ⟨17, _⟩ => ⟨S1x16384x1, .f32⟩
  | .hbm, ⟨18, _⟩ => ⟨S1x16384x1, .f32⟩
  | .hbm, ⟨19, _⟩ => ⟨S1x16384x1, .f32⟩
  | .hbm, ⟨20, _⟩ => ⟨S1x16384x1024, .f32⟩
  | .hbm, ⟨21, _⟩ => ⟨S1x16384x1024, .f32⟩
  | .hbm, ⟨22, _⟩ => ⟨S1x1x1024, .f32⟩
  | .hbm, ⟨23, _⟩ => ⟨S1x16384x1024, .f32⟩
  | .hbm, ⟨24, _⟩ => ⟨S1x16384x1024, .f32⟩
  | .hbm, ⟨25, _⟩ => ⟨S1x16384x4096, .f32⟩
  | .hbm, ⟨26, _⟩ => ⟨S1x16384x4096, .f32⟩
  | .hbm, ⟨27, _⟩ => ⟨S1x16384x4096, .f32⟩
  | .hbm, ⟨28, _⟩ => ⟨S_, .f32⟩
  | .hbm, ⟨29, _⟩ => ⟨S1x16384x4096, .f32⟩
  | .hbm, ⟨30, _⟩ => ⟨S1x16384x4096, .f32⟩
  | .hbm, ⟨31, _⟩ => ⟨S1x16384x4096, .f32⟩
  | .hbm, ⟨32, _⟩ => ⟨S_, .f32⟩
  | .hbm, ⟨33, _⟩ => ⟨S1x16384x4096, .f32⟩
  | .hbm, ⟨34, _⟩ => ⟨S1x16384x4096, .f32⟩
  | .hbm, ⟨35, _⟩ => ⟨S1x16384x4096, .f32⟩
  | .hbm, ⟨36, _⟩ => ⟨S_, .f32⟩
  | .hbm, ⟨37, _⟩ => ⟨S1x16384x4096, .f32⟩
  | .hbm, ⟨38, _⟩ => ⟨S1x16384x4096, .f32⟩
  | .hbm, ⟨39, _⟩ => ⟨S_, .f32⟩
  | .hbm, ⟨40, _⟩ => ⟨S1x16384x4096, .f32⟩
  | .hbm, ⟨41, _⟩ => ⟨S1x16384x4096, .f32⟩
  | .hbm, ⟨42, _⟩ => ⟨S1x16384x4096, .f32⟩
  | .hbm, ⟨43, _⟩ => ⟨S1x16384x2048, .f32⟩
  | .hbm, ⟨44, _⟩ => ⟨S1x16384x2048, .f32⟩
  | .hbm, ⟨45, _⟩ => ⟨S_, .f32⟩
  | .hbm, ⟨46, _⟩ => ⟨S1x16384, .f32⟩
  | .hbm, ⟨47, _⟩ => ⟨S1x16384x1, .f32⟩
  | .hbm, ⟨48, _⟩ => ⟨S_, .f32⟩
  | .hbm, ⟨49, _⟩ => ⟨S1x16384x1, .f32⟩
  | .hbm, ⟨50, _⟩ => ⟨S1x16384x1, .f32⟩
  | .hbm, ⟨51, _⟩ => ⟨S1x16384x2048, .f32⟩
  | .hbm, ⟨52, _⟩ => ⟨S1x16384x2048, .f32⟩
  | .hbm, ⟨53, _⟩ => ⟨S1x16384x2048, .f32⟩
  | .hbm, ⟨54, _⟩ => ⟨S_, .f32⟩
  | .hbm, ⟨55, _⟩ => ⟨S1x16384, .f32⟩
  | .hbm, ⟨56, _⟩ => ⟨S1x16384x1, .f32⟩
  | .hbm, ⟨57, _⟩ => ⟨S_, .f32⟩
  | .hbm, ⟨58, _⟩ => ⟨S1x16384x1, .f32⟩
  | .hbm, ⟨59, _⟩ => ⟨S1x16384x1, .f32⟩
  | .hbm, ⟨60, _⟩ => ⟨S1x16384x2048, .f32⟩
  | .hbm, ⟨61, _⟩ => ⟨S1x16384x2048, .f32⟩
  | .hbm, ⟨62, _⟩ => ⟨S_, .f32⟩
  | .hbm, ⟨63, _⟩ => ⟨S1x16384x1, .f32⟩
  | .hbm, ⟨64, _⟩ => ⟨S1x16384x1, .f32⟩
  | .hbm, ⟨65, _⟩ => ⟨S1x16384x1, .f32⟩
  | .hbm, ⟨66, _⟩ => ⟨S1x16384x2048, .f32⟩
  | .hbm, ⟨67, _⟩ => ⟨S1x16384x2048, .f32⟩
  | .hbm, ⟨68, _⟩ => ⟨S1x1x2048, .f32⟩
  | .hbm, ⟨69, _⟩ => ⟨S1x16384x2048, .f32⟩
  | .hbm, ⟨70, _⟩ => ⟨S1x16384x2048, .f32⟩
  | .hbm, ⟨71, _⟩ => ⟨S1x1x2048, .f32⟩
  | .hbm, ⟨72, _⟩ => ⟨S1x16384x2048, .f32⟩
  | .hbm, ⟨73, _⟩ => ⟨S1x16384x2048, .f32⟩
  | .hbm, ⟨74, _⟩ => ⟨S1x128x128x8x256, .f32⟩
  | .hbm, ⟨75, _⟩ => ⟨S_, .f32⟩
  | .hbm, ⟨76, _⟩ => ⟨S128x128, .f32⟩
  | .hbm, ⟨77, _⟩ => ⟨S128x128, .i32⟩
  | .hbm, ⟨78, _⟩ => ⟨S_, .i32⟩
  | .hbm, ⟨79, _⟩ => ⟨S128x128, .i32⟩
  | .hbm, ⟨80, _⟩ => ⟨S128x128, .i32⟩
  | .hbm, ⟨81, _⟩ => ⟨S128x128, .i32⟩
  | .hbm, ⟨82, _⟩ => ⟨S128x128, .i1⟩
  | .hbm, ⟨83, _⟩ => ⟨S_, .f32⟩
  | .hbm, ⟨84, _⟩ => ⟨S128x128, .f32⟩
  | .hbm, ⟨85, _⟩ => ⟨S128x128, .f32⟩
  | .hbm, ⟨86, _⟩ => ⟨S1x128x128, .f32⟩
  | .hbm, ⟨87, _⟩ => ⟨S8x128x128, .f32⟩
  | .hbm, ⟨88, _⟩ => ⟨S8x128x128, .f32⟩
  | .hbm, ⟨89, _⟩ => ⟨S8x1x128x256x128, .f32⟩
  | .hbm, ⟨90, _⟩ => ⟨S1x128x128x8x256, .f32⟩
  | .hbm, ⟨91, _⟩ => ⟨S128x8, .f32⟩
  | .hbm, ⟨92, _⟩ => ⟨S128x8x1, .f32⟩
  | .hbm, ⟨93, _⟩ => ⟨S1x1x128x8x1, .f32⟩
  | .hbm, ⟨94, _⟩ => ⟨S1x128x128x8x256, .f32⟩
  | .hbm, ⟨95, _⟩ => ⟨S1x128x128x8x256, .f32⟩
  | .hbm, ⟨96, _⟩ => ⟨S1x16384x2048, .f32⟩
  | .hbm, ⟨97, _⟩ => ⟨S1x16384x2048, .f32⟩
  | .hbm, ⟨98, _⟩ => ⟨S1x16384x1024, .f32⟩
  | .hbm, ⟨99, _⟩ => ⟨S1x16384x1024, .f32⟩
  | .hbm, ⟨100, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_11 : Ref sig .tc := ⟨.hbm, 75, rfl⟩
abbrev main_v55 : Ref sig .tc := ⟨.hbm, 76, rfl⟩
abbrev main_call0_v0 : Ref sig .tc := ⟨.hbm, 77, rfl⟩
abbrev main_call0_c : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_cst : Ref sig .tc := ⟨.hbm, 83, rfl⟩
abbrev main_call0_v5 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 13
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x2816, .f32⟩
  | .hbm, ⟨6, _⟩ => ⟨S1024x2816, .bf16⟩
  | .hbm, ⟨7, _⟩ => ⟨S1024x2816, .f32⟩
  | .hbm, ⟨8, _⟩ => ⟨S1024x2816, .bf16⟩
  | .hbm, ⟨9, _⟩ => ⟨S1x1024, .f32⟩
  | .hbm, ⟨10, _⟩ => ⟨S2816x1024, .bf16⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S1x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 13
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x2816, .f32⟩
  | .hbm, ⟨6, _⟩ => ⟨S1024x2816, .bf16⟩
  | .hbm, ⟨7, _⟩ => ⟨S1024x2816, .f32⟩
  | .hbm, ⟨8, _⟩ => ⟨S1024x2816, .bf16⟩
  | .hbm, ⟨9, _⟩ => ⟨S1x1024, .f32⟩
  | .hbm, ⟨10, _⟩ => ⟨S2816x1024, .bf16⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel4.lean ====
abbrev S16384x1536 : Shape := ⟨2, ![16384, 1536]⟩
abbrev S16384x128 : Shape := ⟨2, ![16384, 128]⟩
abbrev S16384x1024 : Shape := ⟨2, ![16384, 1024]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S16384x16 : Shape := ⟨2, ![16384, 16]⟩
abbrev S16x16384 : Shape := ⟨2, ![16, 16384]⟩
abbrev S16x64 : Shape := ⟨2, ![16, 64]⟩
abbrev S1x1024 : Shape := ⟨2, ![1, 1024]⟩
abbrev S1x1536 : Shape := ⟨2, ![1, 1536]⟩
abbrev S1x16 : Shape := ⟨2, ![1, 16]⟩
abbrev S16x1 : Shape := ⟨2, ![16, 1]⟩
abbrev S256x1536 : Shape := ⟨2, ![256, 1536]⟩
abbrev S256x128 : Shape := ⟨2, ![256, 128]⟩
abbrev S16x256 : Shape := ⟨2, ![16, 256]⟩
abbrev S256x1024 : Shape := ⟨2, ![256, 1024]⟩
abbrev S8x1536 : Shape := ⟨2, ![8, 1536]⟩
abbrev S128x1024 : Shape := ⟨2, ![128, 1024]⟩
abbrev S248x1536 : Shape := ⟨2, ![248, 1536]⟩
abbrev S256x256 : Shape := ⟨2, ![256, 256]⟩
abbrev S256x16 : Shape := ⟨2, ![256, 16]⟩
abbrev S256x1 : Shape := ⟨2, ![256, 1]⟩
abbrev S1x256 : Shape := ⟨2, ![1, 256]⟩
abbrev S1x1 : Shape := ⟨2, ![1, 1]⟩
abbrev S256x64 : Shape := ⟨2, ![256, 64]⟩
abbrev S128x64 : Shape := ⟨2, ![128, 64]⟩
abbrev S1x64 : Shape := ⟨2, ![1, 64]⟩
abbrev S128x256 : Shape := ⟨2, ![128, 256]⟩
abbrev S128x512 : Shape := ⟨2, ![128, 512]⟩
abbrev S1x512 : Shape := ⟨2, ![1, 512]⟩
abbrev S256x512 : Shape := ⟨2, ![256, 512]⟩
abbrev S256 : Shape := ⟨1, ![256]⟩

abbrev nBuf : Space → Nat
  | .hbm => 21
  | .vmem => 23
  | .smem => 0
  | _ => 0

abbrev bufTy : (tb : Table) → Fin (tcTables nBuf tb) → BufTy
  | .hbm, ⟨0, _⟩ => ⟨S16384x1536, .f32⟩
  | .hbm, ⟨1, _⟩ => ⟨S16384x128, .f32⟩
  | .hbm, ⟨2, _⟩ => ⟨S16384x1024, .f32⟩
  | .hbm, ⟨3, _⟩ => ⟨S4x1536, .f32⟩
  | .hbm, ⟨4, _⟩ => ⟨S1536, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1024, .f32⟩
  | .hbm, ⟨9, _⟩ => ⟨S16384x16, .f32⟩
  | .hbm, ⟨10, _⟩ => ⟨S16x16384, .f32⟩
  | .hbm, ⟨11, _⟩ => ⟨S16x64, .f32⟩
  | .hbm, ⟨12, _⟩ => ⟨S1024, .f32⟩
  | .hbm, ⟨13, _⟩ => ⟨S1x1024, .f32⟩
  | .hbm, ⟨14, _⟩ => ⟨S1x1536, .f32⟩
  | .hbm, ⟨15, _⟩ => ⟨S1x16, .f32⟩
  | .hbm, ⟨16, _⟩ => ⟨S16x1, .f32⟩
  | .hbm, ⟨17, _⟩ => ⟨S1x16, .f32⟩
  | .hbm, ⟨18, _⟩ => ⟨S16x1, .f32⟩
  | .hbm, ⟨19, _⟩ => ⟨S1x1024, .f32⟩
  | .hbm, ⟨20, _⟩ => ⟨S16384x1024, .bf16⟩
  | .local _ .vmem, ⟨0, _⟩ => ⟨S256x1536, .f32⟩
  | .local _ .vmem, ⟨1, _⟩ => ⟨S256x1536, .f32⟩
  | .local _ .vmem, ⟨2, _⟩ => ⟨S256x128, .f32⟩
  | .local _ .vmem, ⟨3, _⟩ => ⟨S256x128, .f32⟩
  | .local _ .vmem, ⟨4, _⟩ => ⟨S16x256, .f32⟩
  | .local _ .vmem, ⟨5, _⟩ => ⟨S16x256, .f32⟩
  | .local _ .vmem, ⟨6, _⟩ => ⟨S256x1024, .f32⟩
  | .local _ .vmem, ⟨7, _⟩ => ⟨S256x1024, .f32⟩
  | .local _ .vmem, ⟨8, _⟩ => ⟨S4x1536, .f32⟩
  | .local _ .vmem, ⟨9, _⟩ => ⟨S1x1536, .f32⟩
  | .local _ .vmem, ⟨10, _⟩ => ⟨S1x16, .f32⟩
  | .local _ .vmem, ⟨11, _⟩ => ⟨S16x1, .f32⟩
  | .local _ .vmem, ⟨12, _⟩ => ⟨S1x16, .f32⟩
  | .local _ .vmem, ⟨13, _⟩ => ⟨S16x1, .f32⟩
  | .local _ .vmem, ⟨14, _⟩ => ⟨S1x1024, .f32⟩
  | .local _ .vmem, ⟨15, _⟩ => ⟨S1x1024, .f32⟩
  | .local _ .vmem, ⟨16, _⟩ => ⟨S256x1024, .bf16⟩
  | .local _ .vmem, ⟨17, _⟩ => ⟨S256x1024, .bf16⟩
  | .local _ .vmem, ⟨18, _⟩ => ⟨S8x1536, .f32⟩
  | .local _ .vmem, ⟨19, _⟩ => ⟨S128x1024, .f32⟩
  | .local _ .vmem, ⟨20, _⟩ => ⟨S256x1024, .f32⟩
  | .local _ .vmem, ⟨21, _⟩ => ⟨S256x1024, .bf16⟩
  | .local _ .vmem, ⟨22, _⟩ => ⟨S1x1024, .f32⟩
  | _, _ => ⟨S16384x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel5.lean ====
abbrev S16384x1024 : Shape := ⟨2, ![16384, 1024]⟩
abbrev S1024 : Shape := ⟨1, ![1024]⟩
abbrev S1024x6232 : Shape := ⟨2, ![1024, 6232]⟩
abbrev S1024x1024 : Shape := ⟨2, ![1024, 1024]⟩
abbrev S1024x1536 : Shape := ⟨2, ![1024, 1536]⟩
abbrev S1024x16 : Shape := ⟨2, ![1024, 16]⟩
abbrev S1024x512 : Shape := ⟨2, ![1024, 512]⟩
abbrev S1024x64 : Shape := ⟨2, ![1024, 64]⟩
abbrev S1024x8 : Shape := ⟨2, ![1024, 8]⟩
abbrev S_ : Shape := ⟨0, ![]⟩
abbrev S1024x48 : Shape := ⟨2, ![1024, 48]⟩
abbrev S1024x3712 : Shape := ⟨2, ![1024, 3712]⟩
abbrev S1024x2592 : Shape := ⟨2, ![1024, 2592]⟩
abbrev S2592x1024 : Shape := ⟨2, ![2592, 1024]⟩
abbrev S1x1024 : Shape := ⟨2, ![1, 1024]⟩
abbrev S16 : Shape := ⟨1, ![16]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S8 : Shape := ⟨1, ![8]⟩
abbrev S1x8 : Shape := ⟨2, ![1, 8]⟩
abbrev S16384x8 : Shape := ⟨2, ![16384, 8]⟩
abbrev S16384x96 : Shape := ⟨2, ![16384, 96]⟩
abbrev S16384x128 : Shape := ⟨2, ![16384, 128]⟩
abbrev S16384x112 : Shape := ⟨2, ![16384, 112]⟩
abbrev S16384x120 : Shape := ⟨2, ![16384, 120]⟩
abbrev S16x16384 : Shape := ⟨2, ![16, 16384]⟩
abbrev S8x16384 : Shape := ⟨2, ![8, 16384]⟩
abbrev S16384x1536 : Shape := ⟨2, ![16384, 1536]⟩
abbrev S16384x64 : Shape := ⟨2, ![16384, 64]⟩
abbrev S1024x16384 : Shape := ⟨2, ![1024, 16384]⟩
abbrev S512x16384 : Shape := ⟨2, ![512, 16384]⟩
abbrev S512x1024 : Shape := ⟨2, ![512, 1024]⟩
abbrev S512x128 : Shape := ⟨2, ![512, 128]⟩
abbrev S16x512 : Shape := ⟨2, ![16, 512]⟩
abbrev S8x512 : Shape := ⟨2, ![8, 512]⟩
abbrev S512x1536 : Shape := ⟨2, ![512, 1536]⟩
abbrev S512x64 : Shape := ⟨2, ![512, 64]⟩
abbrev S512x512 : Shape := ⟨2, ![512, 512]⟩
abbrev S512 : Shape := ⟨1, ![512]⟩
abbrev S512x1 : Shape := ⟨2, ![512, 1]⟩
abbrev S1024x128 : Shape := ⟨2, ![1024, 128]⟩
abbrev S128x512 : Shape := ⟨2, ![128, 512]⟩
abbrev S96x512 : Shape := ⟨2, ![96, 512]⟩
abbrev S32x1024 : Shape := ⟨2, ![32, 1024]⟩
abbrev S32x512 : Shape := ⟨2, ![32, 512]⟩
abbrev S64x512 : Shape := ⟨2, ![64, 512]⟩
abbrev S48x512 : Shape := ⟨2, ![48, 512]⟩
abbrev S1x512 : Shape := ⟨2, ![1, 512]⟩

abbrev nBuf : Space → Nat
  | .hbm => 108
  | .vmem => 45
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6232, .f32⟩
  | .hbm, ⟨3, _⟩ => ⟨S1024x1024, .f32⟩
  | .hbm, ⟨4, _⟩ => ⟨S1024x1536, .f32⟩
  | .hbm, ⟨5, _⟩ => ⟨S1024x16, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x512, .f32⟩
  | .hbm, ⟨10, _⟩ => ⟨S1024x64, .f32⟩
  | .hbm, ⟨11, _⟩ => ⟨S1024x8, .f32⟩
  | .hbm, ⟨12, _⟩ => ⟨S_, .f32⟩
  | .hbm, ⟨13, _⟩ => ⟨S1024x48, .f32⟩
  | .hbm, ⟨14, _⟩ => ⟨S1024x3712, .f32⟩
  | .hbm, ⟨15, _⟩ => ⟨S1024x3712, .bf16⟩
  | .hbm, ⟨16, _⟩ => ⟨S_, .f32⟩
  | .hbm, ⟨17, _⟩ => ⟨S1024x8, .f32⟩
  | .hbm, ⟨18, _⟩ => ⟨S1024x2592, .f32⟩
  | .hbm, ⟨19, _⟩ => ⟨S2592x1024, .f32⟩
  | .hbm, ⟨20, _⟩ => ⟨S2592x1024, .bf16⟩
  | .hbm, ⟨21, _⟩ => ⟨S1x1024, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S16384, .f32⟩
  | .hbm, ⟨39, _⟩ => ⟨S16384x1, .f32⟩
  | .hbm, ⟨40, _⟩ => ⟨S1x16, .f32⟩
  | .hbm, ⟨41, _⟩ => ⟨S16384x16, .f32⟩
  | .hbm, ⟨42, _⟩ => ⟨S16384x16, .f32⟩
  | .hbm, ⟨43, _⟩ => ⟨S16384x16, .f32⟩
  | .hbm, ⟨44, _⟩ => ⟨S16384x16, .f32⟩
  | .hbm, ⟨45, _⟩ => ⟨S16384x16, .f32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S_, .f32⟩
  | .hbm, ⟨57, _⟩ => ⟨S8, .f32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S16384, .f32⟩
  | .hbm, ⟨63, _⟩ => ⟨S16384x1, .f32⟩
  | .hbm, ⟨64, _⟩ => ⟨S1x8, .f32⟩
  | .hbm, ⟨65, _⟩ => ⟨S16384x8, .f32⟩
  | .hbm, ⟨66, _⟩ => ⟨S16384x8, .f32⟩
  | .hbm, ⟨67, _⟩ => ⟨S16384x8, .f32⟩
  | .hbm, ⟨68, _⟩ => ⟨S16384x8, .f32⟩
  | .hbm, ⟨69, _⟩ => ⟨S16384x8, .f32⟩
  | .hbm, ⟨70, _⟩ => ⟨S_, .f32⟩
  | .hbm, ⟨71, _⟩ => ⟨S16384x96, .f32⟩
  | .hbm, ⟨72, _⟩ => ⟨S16384x128, .f32⟩
  | .hbm, ⟨73, _⟩ => ⟨S16384x16, .f32⟩
  | .hbm, ⟨74, _⟩ => ⟨S_, .f32⟩
  | .hbm, ⟨75, _⟩ => ⟨S16384x112, .f32⟩
  | .hbm, ⟨76, _⟩ => ⟨S16384x128, .f32⟩
  | .hbm, ⟨77, _⟩ => ⟨S_, .f32⟩
  | .hbm, ⟨78, _⟩ => ⟨S16384x16, .f32⟩
  | .hbm, ⟨79, _⟩ => ⟨S_, .f32⟩
  | .hbm, ⟨80, _⟩ => ⟨S16384x96, .f32⟩
  | .hbm, ⟨81, _⟩ => ⟨S16384x128, .f32⟩
  | .hbm, ⟨82, _⟩ => ⟨S_, .f32⟩
  | .hbm, ⟨83, _⟩ => ⟨S16384x112, .f32⟩
  | .hbm, ⟨84, _⟩ => ⟨S16384x128, .f32⟩
  | .hbm, ⟨85, _⟩ => ⟨S16384x8, .f32⟩
  | .hbm, ⟨86, _⟩ => ⟨S_, .f32⟩
  | .hbm, ⟨87, _⟩ => ⟨S16384x120, .f32⟩
  | .hbm, ⟨88, _⟩ => ⟨S16384x128, .f32⟩
  | .hbm, ⟨89, _⟩ => ⟨S_, .f32⟩
  | .hbm, ⟨90, _⟩ => ⟨S16384x8, .f32⟩
  | .hbm, ⟨91, _⟩ => ⟨S_, .f32⟩
  | .hbm, ⟨92, _⟩ => ⟨S16384x112, .f32⟩
  | .hbm, ⟨93, _⟩ => ⟨S16384x128, .f32⟩
  | .hbm, ⟨94, _⟩ => ⟨S16x16384, .f32⟩
  | .hbm, ⟨95, _⟩ => ⟨S16x16384, .f32⟩
  | .hbm, ⟨96, _⟩ => ⟨S8x16384, .f32⟩
  | .hbm, ⟨97, _⟩ => ⟨S8x16384, .f32⟩
  | .hbm, ⟨98, _⟩ => ⟨S16384x1024, .f32⟩
  | .hbm, ⟨99, _⟩ => ⟨S16384x1536, .f32⟩
  | .hbm, ⟨100, _⟩ => ⟨S16384x128, .f32⟩
  | .hbm, ⟨101, _⟩ => ⟨S16384x1024, .bf16⟩
  | .hbm, ⟨102, _⟩ => ⟨S16384x64, .bf16⟩
  | .hbm, ⟨103, _⟩ => ⟨S1024x16384, .bf16⟩
  | .hbm, ⟨104, _⟩ => ⟨S1024x16384, .bf16⟩
  | .hbm, ⟨105, _⟩ => ⟨S512x16384, .bf16⟩
  | .hbm, ⟨106, _⟩ => ⟨S16x16384, .f32⟩
  | .hbm, ⟨107, _⟩ => ⟨S16x16384, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S2592x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S16x512, .f32⟩
  | .local _ .vmem, ⟨18, _⟩ => ⟨S16x512, .f32⟩
  | .local _ .vmem, ⟨19, _⟩ => ⟨S16x512, .f32⟩
  | .local _ .vmem, ⟨20, _⟩ => ⟨S16x512, .f32⟩
  | .local _ .vmem, ⟨21, _⟩ => ⟨S8x512, .f32⟩
  | .local _ .vmem, ⟨22, _⟩ => ⟨S8x512, .f32⟩
  | .local _ .vmem, ⟨23, _⟩ => ⟨S8x512, .f32⟩
  | .local _ .vmem, ⟨24, _⟩ => ⟨S8x512, .f32⟩
  | .local _ .vmem, ⟨25, _⟩ => ⟨S512x1024, .f32⟩
  | .local _ .vmem, ⟨26, _⟩ => ⟨S512x1024, .f32⟩
  | .local _ .vmem, ⟨27, _⟩ => ⟨S512x1536, .f32⟩
  | .local _ .vmem, ⟨28, _⟩ => ⟨S512x1536, .f32⟩
  | .local _ .vmem, ⟨29, _⟩ => ⟨S512x128, .f32⟩
  | .local _ .vmem, ⟨30, _⟩ => ⟨S512x128, .f32⟩
  | .local _ .vmem, ⟨31, _⟩ => ⟨S512x1024, .bf16⟩
  | .local _ .vmem, ⟨32, _⟩ => ⟨S512x1024, .bf16⟩
  | .local _ .vmem, ⟨33, _⟩ => ⟨S512x64, .bf16⟩
  | .local _ .vmem, ⟨34, _⟩ => ⟨S512x64, .bf16⟩
  | .local _ .vmem, ⟨35, _⟩ => ⟨S1024x512, .bf16⟩
  | .local _ .vmem, ⟨36, _⟩ => ⟨S1024x512, .bf16⟩
  | .local _ .vmem, ⟨37, _⟩ => ⟨S1024x512, .bf16⟩
  | .local _ .vmem, ⟨38, _⟩ => ⟨S1024x512, .bf16⟩
  | .local _ .vmem, ⟨39, _⟩ => ⟨S512x512, .bf16⟩
  | .local _ .vmem, ⟨40, _⟩ => ⟨S512x512, .bf16⟩
  | .local _ .vmem, ⟨41, _⟩ => ⟨S16x512, .f32⟩
  | .local _ .vmem, ⟨42, _⟩ => ⟨S16x512, .f32⟩
  | .local _ .vmem, ⟨43, _⟩ => ⟨S16x512, .f32⟩
  | .local _ .vmem, ⟨44, _⟩ => ⟨S16x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_cst_8 : Ref sig .tc := ⟨.hbm, 53, rfl⟩
abbrev main_v41 : Ref sig .tc := ⟨.hbm, 54, rfl⟩
abbrev main_v42 : Ref sig .tc := ⟨.hbm, 55, rfl⟩
abbrev main_cst_9 : Ref sig .tc := ⟨.hbm, 56, rfl⟩
abbrev main_v43 : Ref sig .tc := ⟨.hbm, 57, rfl⟩
abbrev main_v44 : Ref sig .tc := ⟨.hbm, 58, rfl⟩
abbrev main_cst_10 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_cst_13 : Ref sig .tc := ⟨.hbm, 77, rfl⟩
abbrev main_v60 : Ref sig .tc := ⟨.hbm, 78, rfl⟩
abbrev main_cst_14 : Ref sig .tc := ⟨.hbm, 79, rfl⟩
abbrev main_v61 : Ref sig .tc := ⟨.hbm, 80, rfl⟩
abbrev main_v62 : Ref sig .tc := ⟨.hbm, 81, rfl⟩
abbrev main_cst_15 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_16 : Ref sig .tc := ⟨.hbm, 86, rfl⟩
abbrev main_v66 : Ref sig .tc := ⟨.hbm, 87, rfl⟩
abbrev main_v67 : Ref sig .tc := ⟨.hbm, 88, rfl⟩
abbrev main_cst_17 : Ref sig .tc := ⟨.hbm, 89, rfl⟩
abbrev main_v68 : Ref sig .tc := ⟨.hbm, 90, rfl⟩
abbrev main_cst_18 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75_0 : Ref sig .tc := ⟨.hbm, 98, rfl⟩
abbrev main_v75_1 : Ref sig .tc := ⟨.hbm, 99, rfl⟩
abbrev main_v75_2 : Ref sig .tc := ⟨.hbm, 100, rfl⟩
abbrev main_v75_3 : Ref sig .tc := ⟨.hbm, 101, rfl⟩
abbrev main_v75_4 : Ref sig .tc := ⟨.hbm, 102, rfl⟩
abbrev main_v75_5 : Ref sig .tc := ⟨.hbm, 103, rfl⟩
abbrev main_v75_6 : Ref sig .tc := ⟨.hbm, 104, rfl⟩
abbrev main_v75_7 : Ref sig .tc := ⟨.hbm, 105, rfl⟩
abbrev main_v75_8 : Ref sig .tc := ⟨.hbm, 106, rfl⟩
abbrev main_v75_9 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_stg22_0 : Ref sig .tc := ⟨.vmem, 41, rfl⟩
abbrev cc0_stg22_1 : Ref sig .tc := ⟨.vmem, 42, rfl⟩
abbrev cc0_stg23_0 : Ref sig .tc := ⟨.vmem, 43, rfl⟩
abbrev cc0_stg23_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40
abbrev cc0_sem22_0 : DmaSem sig := 41
abbrev cc0_sem22_1 : DmaSem sig := 42
abbrev cc0_sem23_0 : DmaSem sig := 43
abbrev cc0_sem23_1 : DmaSem sig := 44

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2592x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x64 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S16x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S16x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference5Ideal.lean ====
abbrev S16384x1024 : Shape := ⟨2, ![16384, 1024]⟩
abbrev S1024 : Shape := ⟨1, ![1024]⟩
abbrev S1024x6232 : Shape := ⟨2, ![1024, 6232]⟩
abbrev S1x16384x1024 : Shape := ⟨3, ![1, 16384, 1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x6232 : Shape := ⟨3, ![1, 16384, 6232]⟩
abbrev S1x16384x1536 : Shape := ⟨3, ![1, 16384, 1536]⟩
abbrev S1x16384x16 : Shape := ⟨3, ![1, 16384, 16]⟩
abbrev S1x16384x512 : Shape := ⟨3, ![1, 16384, 512]⟩
abbrev S1x16384x64 : Shape := ⟨3, ![1, 16384, 64]⟩
abbrev S1x16384x8 : Shape := ⟨3, ![1, 16384, 8]⟩
abbrev S16 : Shape := ⟨1, ![16]⟩
abbrev S16384 : Shape := ⟨1, ![16384]⟩
abbrev S16384x1 : Shape := ⟨2, ![16384, 1]⟩
abbrev S1x16 : Shape := ⟨2, ![1, 16]⟩
abbrev S16384x16 : Shape := ⟨2, ![16384, 16]⟩
abbrev S8 : Shape := ⟨1, ![8]⟩
abbrev S1x8 : Shape := ⟨2, ![1, 8]⟩
abbrev S16384x8 : Shape := ⟨2, ![16384, 8]⟩
abbrev S1x16384x8x128 : Shape := ⟨4, ![1, 16384, 8, 128]⟩
abbrev S1x16384x8x16 : Shape := ⟨4, ![1, 16384, 8, 16]⟩
abbrev S1x16384x8x96 : Shape := ⟨4, ![1, 16384, 8, 96]⟩
abbrev S1x16384x1x16 : Shape := ⟨4, ![1, 16384, 1, 16]⟩
abbrev S1x16384x8x64 : Shape := ⟨4, ![1, 16384, 8, 64]⟩
abbrev S1x16384x8x8 : Shape := ⟨4, ![1, 16384, 8, 8]⟩
abbrev S1x16384x8x48 : Shape := ⟨4, ![1, 16384, 8, 48]⟩
abbrev S1x16384x1x8 : Shape := ⟨4, ![1, 16384, 1, 8]⟩
abbrev S1x16384x48 : Shape := ⟨3, ![1, 16384, 48]⟩
abbrev S1x16384x128 : Shape := ⟨3, ![1, 16384, 128]⟩
abbrev S1x16384x1x64 : Shape := ⟨4, ![1, 16384, 1, 64]⟩
abbrev S1x16384x1x48 : Shape := ⟨4, ![1, 16384, 1, 48]⟩
abbrev S1x16384x8x1 : Shape := ⟨4, ![1, 16384, 8, 1]⟩
abbrev S16384x1536 : Shape := ⟨2, ![16384, 1536]⟩
abbrev S16384x128 : Shape := ⟨2, ![16384, 128]⟩
abbrev S16384x64 : Shape := ⟨2, ![16384, 64]⟩
abbrev S1024x16384 : Shape := ⟨2, ![1024, 16384]⟩
abbrev S16384x512 : Shape := ⟨2, ![16384, 512]⟩
abbrev S512x16384 : Shape := ⟨2, ![512, 16384]⟩
abbrev S16x16384 : Shape := ⟨2, ![16, 16384]⟩

abbrev nBuf : Space → Nat
  | .hbm => 195
  | .vmem => 0
  | .smem => 0
  | _ => 0

abbrev hbmTy0_0 (i : Nat) : BufTy := match i % 128 with
  | 0 => ⟨S16384x1024, .f32⟩
  | 1 => ⟨S1024, .f32⟩
  | 2 => ⟨S1024x6232, .f32⟩
  | 3 => ⟨S1x16384x1024, .f32⟩
  | 4 => ⟨S1x16384x1024, .f32⟩
  | 5 => ⟨S_, .f32⟩
  | 6 => ⟨S1x16384, .f32⟩
  | 7 => ⟨S1x16384x1, .f32⟩
  | 8 => ⟨S_, .f32⟩
  | 9 => ⟨S1x16384x1, .f32⟩
  | 10 => ⟨S1x16384x1, .f32⟩
  | 11 => ⟨S_, .f32⟩
  | 12 => ⟨S1x16384x1, .f32⟩
  | 13 => ⟨S1x16384x1, .f32⟩
  | 14 => ⟨S1x16384x1, .f32⟩
  | 15 => ⟨S1x16384x1024, .f32⟩
  | 16 => ⟨S1x16384x1024, .f32⟩
  | 17 => ⟨S1x1x1024, .f32⟩
  | 18 => ⟨S1x16384x1024, .f32⟩
  | 19 => ⟨S1x16384x1024, .f32⟩
  | 20 => ⟨S1x16384x6232, .f32⟩
  | 21 => ⟨S1x16384x1024, .f32⟩
  | 22 => ⟨S1x16384x1536, .f32⟩
  | 23 => ⟨S1x16384x16, .f32⟩
  | 24 => ⟨S1x16384x1024, .f32⟩
  | 25 => ⟨S1x16384x1024, .f32⟩
  | 26 => ⟨S1x16384x1024, .f32⟩
  | 27 => ⟨S1x16384x512, .f32⟩
  | 28 => ⟨S1x16384x64, .f32⟩
  | 29 => ⟨S1x16384x8, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S_, .f32⟩
  | 44 => ⟨S16, .f32⟩
  | 45 => ⟨S16, .f32⟩
  | 46 => ⟨S16384, .f32⟩
  | 47 => ⟨S16384x1, .f32⟩
  | 48 => ⟨S1x16, .f32⟩
  | 49 => ⟨S16384x16, .f32⟩
  | 50 => ⟨S16384x16, .f32⟩
  | 51 => ⟨S16384x16, .f32⟩
  | 52 => ⟨S16384x16, .f32⟩
  | 53 => ⟨S16384x16, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S_, .f32⟩
  | 65 => ⟨S8, .f32⟩
  | 66 => ⟨S8, .f32⟩
  | 67 => ⟨S_, .f32⟩
  | 68 => ⟨S8, .f32⟩
  | 69 => ⟨S8, .f32⟩
  | 70 => ⟨S16384, .f32⟩
  | 71 => ⟨S16384x1, .f32⟩
  | 72 => ⟨S1x8, .f32⟩
  | 73 => ⟨S16384x8, .f32⟩
  | 74 => ⟨S16384x8, .f32⟩
  | 75 => ⟨S16384x8, .f32⟩
  | 76 => ⟨S16384x8, .f32⟩
  | 77 => ⟨S16384x8, .f32⟩
  | 78 => ⟨S1x16384x8x128, .f32⟩
  | 79 => ⟨S1x16384x8x16, .f32⟩
  | 80 => ⟨S1x16384x8x16, .f32⟩
  | 81 => ⟨S1x16384x8x96, .f32⟩
  | 82 => ⟨S1x16384x1x16, .f32⟩
  | 83 => ⟨S1x16384x1x16, .f32⟩
  | 84 => ⟨S1x16384x8x16, .f32⟩
  | 85 => ⟨S1x16384x8x16, .f32⟩
  | 86 => ⟨S1x16384x8x16, .f32⟩
  | 87 => ⟨S1x16384x8x16, .f32⟩
  | 88 => ⟨S1x16384x8x16, .f32⟩
  | 89 => ⟨S1x16384x8x16, .f32⟩
  | 90 => ⟨S1x16384x8x16, .f32⟩
  | 91 => ⟨S1x16384x8x16, .f32⟩
  | 92 => ⟨S1x16384x8x16, .f32⟩
  | 93 => ⟨S1x16384x8x16, .f32⟩
  | 94 => ⟨S1x16384x8x128, .f32⟩
  | 95 => ⟨S1x16384x8x128, .f32⟩
  | 96 => ⟨S1x16384x8x16, .f32⟩
  | 97 => ⟨S1x16384x8x16, .f32⟩
  | 98 => ⟨S1x16384x8x96, .f32⟩
  | 99 => ⟨S1x16384x1x16, .f32⟩
  | 100 => ⟨S1x16384x1x16, .f32⟩
  | 101 => ⟨S1x16384x8x16, .f32⟩
  | 102 => ⟨S1x16384x8x16, .f32⟩
  | 103 => ⟨S1x16384x8x16, .f32⟩
  | 104 => ⟨S1x16384x8x16, .f32⟩
  | 105 => ⟨S1x16384x8x16, .f32⟩
  | 106 => ⟨S1x16384x8x16, .f32⟩
  | 107 => ⟨S1x16384x8x16, .f32⟩
  | 108 => ⟨S1x16384x8x16, .f32⟩
  | 109 => ⟨S1x16384x8x16, .f32⟩
  | 110 => ⟨S1x16384x8x16, .f32⟩
  | 111 => ⟨S1x16384x8x128, .f32⟩
  | 112 => ⟨S1x16384x8x64, .f32⟩
  | 113 => ⟨S1x16384x8x8, .f32⟩
  | 114 => ⟨S1x16384x8x8, .f32⟩
  | 115 => ⟨S1x16384x8x48, .f32⟩
  | 116 => ⟨S1x16384x1x8, .f32⟩
  | 117 => ⟨S1x16384x1x8, .f32⟩
  | 118 => ⟨S1x16384x8x8, .f32⟩
  | 119 => ⟨S1x16384x8x8, .f32⟩
  | 120 => ⟨S1x16384x8x8, .f32⟩
  | 121 => ⟨S1x16384x8x8, .f32⟩
  | 122 => ⟨S1x16384x8x8, .f32⟩
  | 123 => ⟨S1x16384x8x8, .f32⟩
  | 124 => ⟨S1x16384x8x8, .f32⟩
  | 125 => ⟨S1x16384x8x8, .f32⟩
  | 126 => ⟨S1x16384x8x8, .f32⟩
  | 127 => ⟨S1x16384x8x8, .f32⟩
  | _ => ⟨S16384x1024, .f32⟩

abbrev hbmTy0_1 (i : Nat) : BufTy := match i % 128 with
  | 0 => ⟨S1x16384x8x64, .f32⟩
  | 1 => ⟨S_, .f32⟩
  | 2 => ⟨S1x16384x48, .f32⟩
  | 3 => ⟨S1x16384x128, .f32⟩
  | 4 => ⟨S1x16384x1x64, .f32⟩
  | 5 => ⟨S1x16384x1x8, .f32⟩
  | 6 => ⟨S1x16384x1x8, .f32⟩
  | 7 => ⟨S1x16384x1x48, .f32⟩
  | 8 => ⟨S1x16384x1x8, .f32⟩
  | 9 => ⟨S1x16384x1x8, .f32⟩
  | 10 => ⟨S1x16384x1x8, .f32⟩
  | 11 => ⟨S1x16384x1x8, .f32⟩
  | 12 => ⟨S1x16384x1x8, .f32⟩
  | 13 => ⟨S1x16384x1x8, .f32⟩
  | 14 => ⟨S1x16384x1x8, .f32⟩
  | 15 => ⟨S1x16384x1x8, .f32⟩
  | 16 => ⟨S1x16384x1x64, .f32⟩
  | 17 => ⟨S1x16384x64, .f32⟩
  | 18 => ⟨S_, .f32⟩
  | 19 => ⟨S1x16384x8, .f32⟩
  | 20 => ⟨S1x16384x8, .f32⟩
  | 21 => ⟨S_, .f32⟩
  | 22 => ⟨S1x16384x8x128, .f32⟩
  | 23 => ⟨S1x16384x8x128, .f32⟩
  | 24 => ⟨S1x16384x1024, .f32⟩
  | 25 => ⟨S1x16384x8x1, .f32⟩
  | 26 => ⟨S1x16384x8x64, .f32⟩
  | 27 => ⟨S1x16384x8x64, .f32⟩
  | 28 => ⟨S1x16384x512, .f32⟩
  | 29 => ⟨S_, .f32⟩
  | 30 => ⟨S1x16384x8, .f32⟩
  | 31 => ⟨S1x16384x8, .i1⟩
  | 32 => ⟨S_, .f32⟩
  | 33 => ⟨S_, .f32⟩
  | 34 => ⟨S1x16384x8, .f32⟩
  | 35 => ⟨S1x16384x8, .f32⟩
  | 36 => ⟨S1x16384x8, .f32⟩
  | 37 => ⟨S_, .f32⟩
  | 38 => ⟨S1x16384x8, .f32⟩
  | 39 => ⟨S1x16384x8, .i1⟩
  | 40 => ⟨S_, .f32⟩
  | 41 => ⟨S_, .f32⟩
  | 42 => ⟨S1x16384x8, .f32⟩
  | 43 => ⟨S1x16384x8, .f32⟩
  | 44 => ⟨S1x16384x8, .f32⟩
  | 45 => ⟨S1x16384x16, .f32⟩
  | 46 => ⟨S16384x1024, .f32⟩
  | 47 => ⟨S16384x1536, .f32⟩
  | 48 => ⟨S16384x128, .f32⟩
  | 49 => ⟨S1x16384x1024, .f32⟩
  | 50 => ⟨S16384x1024, .f32⟩
  | 51 => ⟨S16384x1024, .bf16⟩
  | 52 => ⟨S16384x64, .f32⟩
  | 53 => ⟨S16384x64, .bf16⟩
  | 54 => ⟨S16384x1024, .f32⟩
  | 55 => ⟨S1024x16384, .f32⟩
  | 56 => ⟨S1024x16384, .bf16⟩
  | 57 => ⟨S16384x1024, .f32⟩
  | 58 => ⟨S1024x16384, .f32⟩
  | 59 => ⟨S1024x16384, .bf16⟩
  | 60 => ⟨S16384x512, .f32⟩
  | 61 => ⟨S512x16384, .f32⟩
  | 62 => ⟨S512x16384, .bf16⟩
  | 63 => ⟨S16384x16, .f32⟩
  | 64 => ⟨S16x16384, .f32⟩
  | 65 => ⟨S16384x16, .f32⟩
  | 66 => ⟨S16x16384, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_7 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_cst_9 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_cst_12 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_cst_13 : Ref sig .tc := ⟨.hbm, 146, rfl⟩
abbrev main_v129 : Ref sig .tc := ⟨.hbm, 147, rfl⟩
abbrev main_v130 : Ref sig .tc := ⟨.hbm, 148, rfl⟩
abbrev main_cst_14 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_cst_15 : Ref sig .tc := ⟨.hbm, 157, rfl⟩
abbrev main_v138 : Ref sig .tc := ⟨.hbm, 158, rfl⟩
abbrev main_v139 : Ref sig .tc := ⟨.hbm, 159, rfl⟩
abbrev main_cst_16 : Ref sig .tc := ⟨.hbm, 160, rfl⟩
abbrev main_cst_17 : Ref sig .tc := ⟨.hbm, 161, rfl⟩
abbrev main_call0_v0 : Ref sig .tc := ⟨.hbm, 162, rfl⟩
abbrev main_call0_v1 : Ref sig .tc := ⟨.hbm, 163, rfl⟩
abbrev main_v140 : Ref sig .tc := ⟨.hbm, 164, rfl⟩
abbrev main_cst_18 : Ref sig .tc := ⟨.hbm, 165, rfl⟩
abbrev main_v141 : Ref sig .tc := ⟨.hbm, 166, rfl⟩
abbrev main_v142 : Ref sig .tc := ⟨.hbm, 167, rfl⟩
abbrev main_cst_19 : Ref sig .tc := ⟨.hbm, 168, rfl⟩
abbrev main_cst_20 : Ref sig .tc := ⟨.hbm, 169, rfl⟩
abbrev main_call1_v0 : Ref sig .tc := ⟨.hbm, 170, rfl⟩
abbrev main_call1_v1 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩

abbrev nD : Nat := 1
abbrev τ : Topo := Topo.v7x

variable {F : FTy → Type} [FloatOps F]
-- ==== Kernel6.lean ====
abbrev S16384x1024 : Shape := ⟨2, ![16384, 1024]⟩
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S2048x1024, .f32⟩
  | .hbm, ⟨4, _⟩ => ⟨S2048x1024, .bf16⟩
  | .hbm, ⟨5, _⟩ => ⟨S1024x1024, .bf16⟩
  | .hbm, ⟨6, _⟩ => ⟨S1024x1024, .bf16⟩
  | .hbm, ⟨7, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1024x1024, .bf16⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S16384x1024 : Shape := ⟨2, ![16384, 1024]⟩
abbrev S2048x1024 : Shape := ⟨2, ![2048, 1024]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S2048x1024, .f32⟩
  | .hbm, ⟨4, _⟩ => ⟨S16384x2048, .bf16⟩
  | .hbm, ⟨5, _⟩ => ⟨S16384x1024, .f32⟩
  | .hbm, ⟨6, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Proof.OddRow.lean ====
/- The gated mixer, one row (or one chunk of rows) at a time: plain functions on extended reals that the kernel's
   stored values and the reference's arrays are both read as. -/
module

public import Idealize.ShloMosaic.Lib.Pointwise

@[expose] public section

noncomputable section

open Idealize.ShloMosaic

namespace Cert.OddRow

/-- Entry `k` of the root-mean-square norm of the row `x`, scaled by `g`. -/
def nrm (x g : Fin 1024 → EReal) (k : Fin 1024) : EReal :=
  x k * Ideal.rsqrt (Ideal.div (∑ j, x j * x j) (Ideal.ofBits .f32 0x44800000#32) + Ideal.ofBits .f32 0x358637BD#32) * g k

/-- The normed row against one column `w` of a projection. -/
def lin (x g w : Fin 1024 → EReal) : EReal := ∑ k, nrm x g k * w k

/-- The tanh form of the Gaussian error linear unit. -/
def gelu (s : EReal) : EReal :=
  s * (Ideal.ofBits .f32 0x3F000000#32 * (1 + Ideal.tanh (Ideal.ofBits .f32 0x3F4C422A#32 * (s + Ideal.ofBits .f32 0x3D372713#32 * (s * (s * s))))))

/-- The mean of a row of 2048 entries. -/
def mean (v : Fin 2048 → EReal) : EReal := Ideal.div (∑ j, v j) (Ideal.ofBits .f32 0x45000000#32)

/-- Entry `j` of the layer norm of the row `v`, scale `a`, shift `b`. -/
def lnorm (v a b : Fin 2048 → EReal) (j : Fin 2048) : EReal :=
  (v j - mean v) * Ideal.rsqrt (mean (fun i => (v i - mean v) * (v i - mean v)) + Ideal.ofBits .f32 0x358637BD#32) * a j + b j

/-- One entry of the causal mix of a chunk of 128 rows: row `r` of the weights against the column `v`, plus a shift. -/
def mix (w : Fin 128 → EReal) (v : Fin 128 → EReal) (b : EReal) (r : Fin 128) : EReal :=
  (∑ s : Fin 128, if s ≤ r then w s * v s else 0) + b

/-- The causal comparison of two positions, made on 32-bit words. -/
theorem causal : ∀ r s : Fin 128, IntOp.cmpi .sge (BitVec.ofNat 32 r.val) (BitVec.ofNat 32 s.val) = if s ≤ r then 1 else 0 := by
  decide +kernel

/-- Selecting by that comparison is the condition on the positions. -/
theorem select_causal (r s : Fin 128) (x y : EReal) :
    Scalar.select (IntOp.cmpi .sge (BitVec.ofNat 32 r.val) (BitVec.ofNat 32 s.val)) x y = if s ≤ r then x else y := by
  rw [causal]; split <;> rfl

end Cert.OddRow

end
-- ==== Proof.OddTile.lean ====
/- The gated mixer's kernel: the 32 stores into its scratch buffer, read back as one tile. -/
module

public import proofs.«01_k».proof.Proof.Gen.KernelIdeal.Value
public import proofs.«01_k».proof.Proof.OddRow
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen Cert.OddRow

variable (m : (ℓ : Loc nD τ sig) → Buf (Elt Ideal) ℓ)

/-- The gated tile, entry by entry: the first half of the projection times the causal mix of the second. -/
def TT (u : FVec Ideal S512x2048 .f32) (v : FVec Ideal S512x2048 .bf16) (ws : FVec Ideal S8x128x128 .f32) (bs : FVec Ideal S128x2048 .f32) :
    FVec Ideal S512x2048 .bf16 := fun i =>
  u (ix2 (i 0) (i 1)) * mix (fun s => ws (ix3 (⟨(i 1 : ℕ) / 256, by have := (i 1).isLt; simp at this; omega⟩ : Fin 8) (⟨(i 0 : ℕ) % 128, by omega⟩ : Fin 128) s))
    (fun s => v (ix2 (⟨(i 0 : ℕ) / 128 * 128 + s, by have := (i 0).isLt; simp at this; omega⟩ : Fin 512) (i 1))) (bs (ix2 (⟨(i 0 : ℕ) % 128, by omega⟩ : Fin 128) (i 1))) ⟨(i 0 : ℕ) % 128, by omega⟩

set_option maxHeartbeats 4000000 in
/-- What a grid point leaves in the result's block: the output projection of the gated tile, added to the rows. -/
theorem out_eq (c : Dev nD) (t : Fin cfg0.N) (y : S512x1024.Idx) : outsAt0 m c t y
    = k0_pay2 (iblk m c 0 t) (TT (k0_pay4 (iblk m c 0 t) (iblk m c 1 t)
                (View.ld (iblk m c 2 t) (Rect.unit ![0, 0] ![1024, 2048] inb_S1024x4096_S1024x2048_0_0))) (k0_pay7
                (k0_pay5 (iblk m c 0 t) (iblk m c 1 t)
                  (View.ld (iblk m c 2 t) (Rect.unit ![0, 2048] ![1024, 2048] inb_S1024x4096_S1024x2048_0_2048)))
                (k0_pay6 (iblk m c 0 t) (iblk m c 1 t)
                  (View.ld (iblk m c 2 t) (Rect.unit ![0, 2048] ![1024, 2048] inb_S1024x4096_S1024x2048_0_2048)))
                (FloatOps.ofBits FTy.f32 1061962282#32) (iblk m c 3 t) (iblk m c 4 t)) (iblk m c 5 t) (iblk m c 6 t)) (iblk m c 7 t) y := by
  unfold Gen.outsAt0; frame_out
  refine congrArg (fun s => k0_pay2 (iblk m c 0 t) s (iblk m c 7 t) y) ?_
  funext i
  simp only [k0_pay9]
  generalize k0_pay4 (iblk m c 0 t) (iblk m c 1 t) _ = u
  generalize k0_pay7 _ _ _ (iblk m c 3 t) (iblk m c 4 t) = v
  rw [View.readCov_eq_canon']
  change View.ld (View.canon _) (Rect.unit (s := S512x2048) ![0, 0] S512x2048.size inb_S512x2048_S512x2048_0_0) i = _
  rw [View.ld_unit_lit _ _ (by decide)]
  canon_tiles x h
  all_goals
    open_payloads
    pointwise [TT, mix]
    have e : ∀ h, (⟨(i 0 : ℕ) % 128, h⟩ : Fin 128) = x 0 := fun _ => Fin.ext (show (i 0 : ℕ) % 128 = (x 0 : ℕ) by omega)
    have e' : ∀ (s : Fin 128) (p q : EReal), Scalar.select (IntOp.cmpi .sge (BitVec.ofNat 32 (x 0 : ℕ)) (BitVec.ofNat 32 (s : ℕ))) p q
        = if s ≤ x 0 then p else q := select_causal (x 0)
    simp only [e, e']
    blk_point []

end Cert.KernelIdeal.RefValue

end
-- ==== Proof.OddKernel.lean ====
/- The gated mixer's kernel: the values its body computes, read one row at a time, and the tile that it assembles in
   its scratch buffer from 32 stores. -/
module

public import proofs.«01_k».proof.Proof.Gen.KernelIdeal.Value
public import proofs.«01_k».proof.Proof.OddRow
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen Cert.OddRow

variable (m : (ℓ : Loc nD τ sig) → Buf (Elt Ideal) ℓ)

/-- The normed rows. -/
theorem nrm_at (x : FVec Ideal S512x1024 .f32) (g : FVec Ideal S1x1024 .f32) (r : Fin 512) (k : Fin 1024) :
    k0_pay3 (F := Ideal) x g (ix2 r k) = nrm (fun j => x (ix2 r j)) (fun j => g (ix2 0 j)) k := by
  pointwise [k0_pay3, nrm]

/-- The first half of the projection, activated. -/
theorem gate_at (x : FVec Ideal S512x1024 .f32) (g : FVec Ideal S1x1024 .f32) (w : FVec Ideal S1024x2048 .bf16) (r : Fin 512) (c : Fin 2048) :
    k0_pay4 (F := Ideal) x g w (ix2 r c) = gelu (lin (fun j => x (ix2 r j)) (fun j => g (ix2 0 j)) (fun j => w (ix2 j c))) := by
  pointwise [k0_pay4, gelu, lin]
  simp only [nrm_at]

/-- The second half of the projection. -/
theorem lin_at (x : FVec Ideal S512x1024 .f32) (g : FVec Ideal S1x1024 .f32) (w : FVec Ideal S1024x2048 .bf16) (r : Fin 512) (c : Fin 2048) :
    k0_pay5 (F := Ideal) x g w (ix2 r c) = lin (fun j => x (ix2 r j)) (fun j => g (ix2 0 j)) (fun j => w (ix2 j c)) := by
  pointwise [k0_pay5, lin]
  simp only [nrm_at]

/-- The second half of the projection, activated and layer-normed. -/
theorem value_at (x : FVec Ideal S512x1024 .f32) (g : FVec Ideal S1x1024 .f32) (w : FVec Ideal S1024x2048 .bf16)
    (a b : FVec Ideal S1x2048 .f32) (r : Fin 512) (c : Fin 2048) :
    k0_pay7 (F := Ideal) (k0_pay5 x g w) (k0_pay6 x g w) (Ideal.ofBits FTy.f32 1061962282#32) a b (ix2 r c)
      = lnorm (fun i => gelu (lin (fun j => x (ix2 r j)) (fun j => g (ix2 0 j)) (fun j => w (ix2 j i))))
        (fun i => a (ix2 0 i)) (fun i => b (ix2 0 i)) c := by
  pointwise [k0_pay7, k0_pay6, lnorm, gelu, mean]
  simp only [lin_at]

end Cert.KernelIdeal.RefValue

end
-- ==== Proof.OddRef.lean ====
/- The gated mixer's reference, read one row at a time. -/
module

public import proofs.«01_k».proof.Proof.Gen.ReferenceIdeal.Run
public import proofs.«01_k».proof.Proof.OddRow
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen Cert.OddRow

/-- The normed rows. -/
def NORM (h : FVec Ideal S16384x1024 .f32) (g : FVec Ideal S1024 .f32) : FVec Ideal S1x16384x1024 .f32 :=
  mulf (mulf (broadcastInDim S1x16384x1024 ![1, 2] bcast_S16384x1024_S1x16384x1024_1_2 h) (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf (broadcastInDim S1x16384x1024 ![1, 2] bcast_S16384x1024_S1x16384x1024_1_2 h) (broadcastInDim S1x16384x1024 ![1, 2] bcast_S16384x1024_S1x16384x1024_1_2 h)) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 g))

/-- The projection of the normed rows. -/
def PROJ (h : FVec Ideal S16384x1024 .f32) (g : FVec Ideal S1024 .f32) (w : FVec Ideal S1024x4096 .f32) : FVec Ideal S1x16384x4096 .f32 :=
  Host.dotGeneral dot_S1x16384x1024_S1024x4096_S1x16384x4096_2_0_01_1_n_n none (NORM h g) w

/-- The activation. -/
def GELU (s : FVec Ideal S1x16384x4096 .f32) : FVec Ideal S1x16384x4096 .f32 :=
  mulf s (mulf (broadcastInDim S1x16384x4096 ![] bcast_S_S1x16384x4096 (constant S_ .f32 0x3F000000#32)) (addf (broadcastInDim S1x16384x4096 ![] bcast_S_S1x16384x4096 (constant S_ .f32 0x3F800000#32)) (Host.tanh (mulf (broadcastInDim S1x16384x4096 ![] bcast_S_S1x16384x4096 (constant S_ .f32 0x3F4C422A#32)) (addf s (mulf (broadcastInDim S1x16384x4096 ![] bcast_S_S1x16384x4096 (constant S_ .f32 0x3D372713#32)) (mulf (mulf s s) s)))))))

/-- The mean of every row. -/
def MEAN (v : FVec Ideal S1x16384x2048 .f32) : FVec Ideal S1x16384x1 .f32 :=
  Host.divf (broadcastInDim S1x16384x1 ![0, 1] bcast_S1x16384_S1x16384x1_0_1 (Host.reduceAdd v (constant S_ .f32 0x00000000#32) reducesTo_S1x16384x2048_S1x16384_d2 h_S_)) (broadcastInDim S1x16384x1 ![] bcast_S_S1x16384x1 (constant S_ .f32 0x45000000#32))

/-- The rows minus their mean. -/
def CENT (v : FVec Ideal S1x16384x2048 .f32) : FVec Ideal S1x16384x2048 .f32 :=
  subf v (broadcastInDim S1x16384x2048 ![0, 1, 2] bcast_S1x16384x1_S1x16384x2048_0_1_2 (MEAN v))

/-- The layer norm. -/
def LNORM (v : FVec Ideal S1x16384x2048 .f32) (a b : FVec Ideal S2048 .f32) : FVec Ideal S1x16384x2048 .f32 :=
  addf (mulf (mulf (CENT v) (broadcastInDim S1x16384x2048 ![0, 1, 2] bcast_S1x16384x1_S1x16384x2048_0_1_2 (Host.rsqrt (addf (MEAN (mulf (CENT v) (CENT v))) (broadcastInDim S1x16384x1 ![] bcast_S_S1x16384x1 (constant S_ .f32 0x358637BD#32)))))) (broadcastInDim S1x16384x2048 ![0, 1, 2] bcast_S1x1x2048_S1x16384x2048_0_1_2 (broadcastInDim S1x1x2048 ![2] bcast_S2048_S1x1x2048_2 a))) (broadcastInDim S1x16384x2048 ![0, 1, 2] bcast_S1x1x2048_S1x16384x2048_0_1_2 (broadcastInDim S1x1x2048 ![2] bcast_S2048_S1x1x2048_2 b))

/-- The causal mix of every chunk of 128 rows, group by group. -/
def MIX (v : FVec Ideal S1x16384x2048 .f32) (ws : FVec Ideal S8x128x128 .f32) (bs : FVec Ideal S8x128 .f32) : FVec Ideal S1x16384x2048 .f32 :=
  shapeCast _ (addf (transpose S1x128x128x8x256 [1, 2, 4, 0, 3] (Host.dotGeneral dot_S1x128x128x8x256_S8x128x128_S8x1x128x256x128_2_2_014_1_3_0 none (shapeCast S1x128x128x8x256 v shapeCasts_S1x16384x2048_S1x128x128x8x256) (mulf ws (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))))) transposes_S8x1x128x256x128_S1x128x128x8x256_1_2_4_0_3) (broadcastInDim S1x128x128x8x256 ![0, 1, 2, 3, 4] bcast_S1x1x128x8x1_S1x128x128x8x256_0_1_2_3_4 (broadcastInDim S1x1x128x8x1 ![2, 3, 4] bcast_S128x8x1_S1x1x128x8x1_2_3_4 (broadcastInDim S128x8x1 ![0, 1] bcast_S128x8_S128x8x1_0_1 (transpose S128x8 [1, 0] bs transposes_S8x128_S128x8_1_0))))) shapeCasts_S1x128x128x8x256_S1x16384x2048

/-- The gated rows. -/
def GATED (p : FVec Ideal S1x16384x4096 .f32) (a b : FVec Ideal S2048 .f32) (ws : FVec Ideal S8x128x128 .f32) (bs : FVec Ideal S8x128 .f32) :
    FVec Ideal S1x16384x2048 .f32 :=
  mulf (extractStridedSlice S1x16384x2048 ![0, 0, 0] (GELU p) slices_S1x16384x4096_S1x16384x2048_0_0_0)
    (MIX (LNORM (extractStridedSlice S1x16384x2048 ![0, 0, 2048] (GELU p) slices_S1x16384x4096_S1x16384x2048_0_0_2048) a b) ws bs)

/-- The reference's result, over its arguments. -/
def REF (h : FVec Ideal S16384x1024 .f32) (g : FVec Ideal S1024 .f32) (w : FVec Ideal S1024x4096 .f32)
    (a b : FVec Ideal S2048 .f32) (ws : FVec Ideal S8x128x128 .f32) (bs : FVec Ideal S8x128 .f32) (wo : FVec Ideal S2048x1024 .f32) :
    FVec Ideal S16384x1024 .f32 :=
  shapeCast _ (addf (broadcastInDim S1x16384x1024 ![1, 2] bcast_S16384x1024_S1x16384x1024_1_2 h)
    (Host.dotGeneral dot_S1x16384x2048_S2048x1024_S1x16384x1024_2_0_01_1_n_n none (GATED (PROJ h g w) a b ws bs) wo)) shapeCasts_S1x16384x1024_S16384x1024

/-- The projection, one entry. -/
theorem proj_at (h : FVec Ideal S16384x1024 .f32) (g : FVec Ideal S1024 .f32) (w : FVec Ideal S1024x4096 .f32) (r : Fin 16384) (c : Fin 4096) :
    PROJ h g w (ix3 0 r c) = lin (fun j => h (ix2 r j)) (fun j => g (ix1 j)) (fun j => w (ix2 j c)) := by
  pointwise [PROJ, NORM, lin, nrm]

/-- The activation, one entry. -/
theorem gelu_at (s : FVec Ideal S1x16384x4096 .f32) (r : Fin 16384) (c : Fin 4096) : GELU s (ix3 0 r c) = gelu (s (ix3 0 r c)) := by
  pointwise [GELU, gelu]
  have e : ∀ x : EReal, x * x * x = x * (x * x) := fun x => mul_comm _ _
  simp only [e]

/-- The layer norm, one entry. -/
theorem lnorm_at (v : FVec Ideal S1x16384x2048 .f32) (a b : FVec Ideal S2048 .f32) (r : Fin 16384) (c : Fin 2048) :
    LNORM v a b (ix3 0 r c) = lnorm (fun j => v (ix3 0 r j)) (fun j => a (ix1 j)) (fun j => b (ix1 j)) c := by
  pointwise [LNORM, CENT, MEAN, lnorm, mean]

/-- The causal mix, one entry. -/
theorem mix_at (v : FVec Ideal S1x16384x2048 .f32) (ws : FVec Ideal S8x128x128 .f32) (bs : FVec Ideal S8x128 .f32) (r : Fin 16384) (c : Fin 2048) :
    MIX v ws bs (ix3 0 r c) = mix (fun s => ws (ix3 (⟨(c : ℕ) / 256, by omega⟩ : Fin 8) (⟨(r : ℕ) % 128, by omega⟩ : Fin 128) s))
      (fun s => v (ix3 0 (⟨(r : ℕ) / 128 * 128 + s, by omega⟩ : Fin 16384) c))
      (bs (ix2 (⟨(c : ℕ) / 256, by omega⟩ : Fin 8) (⟨(r : ℕ) % 128, by omega⟩ : Fin 128))) ⟨(r : ℕ) % 128, by omega⟩ := by
  pointwise [MIX, mix]
  have e : ∀ x : BitVec 32, IntOp.addi x 0#32 = x := fun x => BitVec.add_zero x
  simp only [e]
  have e' := select_causal (⟨(r : ℕ) % 128, by omega⟩ : Fin 128)
  simp only [] at e'
  have e'' : ∀ (p : S1x16384x2048.Idx) (q : S8x128x128.Idx), (v p * ws q : EReal) = ws q * v p := fun _ _ => mul_comm _ _
  simp only [e', e'']

/-- The gated rows, one entry. -/
theorem gated_at (p : FVec Ideal S1x16384x4096 .f32) (a b : FVec Ideal S2048 .f32) (ws : FVec Ideal S8x128x128 .f32) (bs : FVec Ideal S8x128 .f32)
    (r : Fin 16384) (c : Fin 2048) :
    GATED p a b ws bs (ix3 0 r c) = gelu (p (ix3 0 r (⟨c, by omega⟩ : Fin 4096)))
      * mix (fun s => ws (ix3 (⟨(c : ℕ) / 256, by omega⟩ : Fin 8) (⟨(r : ℕ) % 128, by omega⟩ : Fin 128) s))
      (fun s => lnorm (fun j => gelu (p (ix3 0 (⟨(r : ℕ) / 128 * 128 + s, by omega⟩ : Fin 16384) (⟨2048 + j, by omega⟩ : Fin 4096))))
        (fun j => a (ix1 j)) (fun j => b (ix1 j)) c)
      (bs (ix2 (⟨(c : ℕ) / 256, by omega⟩ : Fin 8) (⟨(r : ℕ) % 128, by omega⟩ : Fin 128))) ⟨(r : ℕ) % 128, by omega⟩ := by
  pointwise [GATED]
  simp only [mix_at, lnorm_at]
  pointwise []
  simp only [gelu_at]

/-- The reference's result, one entry. -/
theorem ref_at (h : FVec Ideal S16384x1024 .f32) (g : FVec Ideal S1024 .f32) (w : FVec Ideal S1024x4096 .f32)
    (a b : FVec Ideal S2048 .f32) (ws : FVec Ideal S8x128x128 .f32) (bs : FVec Ideal S8x128 .f32) (wo : FVec Ideal S2048x1024 .f32)
    (r : Fin 16384) (c : Fin 1024) :
    REF h g w a b ws bs wo (ix2 r c) = h (ix2 r c) + ∑ k : Fin 2048, (gelu (lin (fun j => h (ix2 r j)) (fun j => g (ix1 j)) (fun j => w (ix2 j (⟨k, by omega⟩ : Fin 4096))))
      * mix (fun s => ws (ix3 (⟨(k : ℕ) / 256, by omega⟩ : Fin 8) (⟨(r : ℕ) % 128, by omega⟩ : Fin 128) s))
      (fun s => lnorm (fun i => gelu (lin (fun j => h (ix2 (⟨(r : ℕ) / 128 * 128 + s, by omega⟩ : Fin 16384) j)) (fun j => g (ix1 j)) (fun j => w (ix2 j (⟨2048 + i, by omega⟩ : Fin 4096)))))
        (fun j => a (ix1 j)) (fun j => b (ix1 j)) k)
      (bs (ix2 (⟨(k : ℕ) / 256, by omega⟩ : Fin 8) (⟨(r : ℕ) % 128, by omega⟩ : Fin 128))) ⟨(r : ℕ) % 128, by omega⟩) * wo (ix2 k c) := by
  pointwise [REF]
  simp only [gated_at, proj_at]

/-- The reference's result is that composition. -/
theorem res_eq (m : (ℓ : Loc nD τ sig) → Buf (Elt Ideal) ℓ) (c : Dev nD) :
    Value.res_main_v71 m c = REF (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := rfl

end Cert.ReferenceIdeal.RefValue

end
-- ==== Proof.OddValue.lean ====
/- The gated mixer: what the kernel leaves in its result array is the reference's result. -/
module

public import proofs.«01_k».proof.Proof.OddTile
public import proofs.«01_k».proof.Proof.OddKernel
public import proofs.«01_k».proof.Proof.OddRef
public import proofs.«01_k».proof.Proof.OddRow
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.RefValue

open Cert.KernelIdeal Cert.KernelIdeal.Gen Cert.OddRow Cert.ReferenceIdeal.RefValue

variable (m : (ℓ : Loc nD τ sig) → Buf (Elt Ideal) ℓ)

/-- The block of every window at every grid point: the rows move with the point, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0, 0] ∧ win0_6.index t = ![0, 0] ∧ win0_7.index t = ![0, 0]
    ∧ win0_8.index t = ![t.val, 0] :=
  (by decide +kernel : ∀ t : Fin grid0.N, _)

/-- The stored tile, entry by entry. -/
theorem kernel_at (x : FVec Ideal S512x1024 .f32) (g : FVec Ideal S1x1024 .f32) (wu wv : FVec Ideal S1024x2048 .bf16)
    (a b : FVec Ideal S1x2048 .f32) (ws : FVec Ideal S8x128x128 .f32) (bs : FVec Ideal S128x2048 .f32) (wo : FVec Ideal S2048x1024 .bf16)
    (r : Fin 512) (c : Fin 1024) :
    k0_pay2 (F := Ideal) x (TT (k0_pay4 x g wu) (k0_pay7 (k0_pay5 x g wv) (k0_pay6 x g wv) (FloatOps.ofBits (F := Ideal) FTy.f32 1061962282#32) a b) ws bs) wo (ix2 r c)
      = x (ix2 r c) + ∑ k : Fin 2048, (gelu (lin (fun j => x (ix2 r j)) (fun j => g (ix2 0 j)) (fun j => wu (ix2 j k)))
        * mix (fun s => ws (ix3 (⟨(k : ℕ) / 256, by omega⟩ : Fin 8) (⟨(r : ℕ) % 128, by omega⟩ : Fin 128) s))
          (fun s => lnorm (fun i => gelu (lin (fun j => x (ix2 (⟨(r : ℕ) / 128 * 128 + s, by omega⟩ : Fin 512) j))
              (fun j => g (ix2 0 j)) (fun j => wv (ix2 j i)))) (fun i => a (ix2 0 i)) (fun i => b (ix2 0 i)) k)
          (bs (ix2 (⟨(r : ℕ) % 128, by omega⟩ : Fin 128) k)) ⟨(r : ℕ) % 128, by omega⟩) * wo (ix2 k c) := by
  pointwise [k0_pay2, TT]
  simp only [gate_at, value_at]

/-! Every block that a grid point reads, over the program's arguments. -/

theorem read0 (c : Dev nD) (t : Fin cfg0.N) (r : Fin 512) (j : Fin 1024) :
    iblk m c 0 t (ix2 r j) = m ((c : Thread nD τ).loc main_arg0) (ix2 (⟨512 * t.val + r, by have : t.val < 32 := t.isLt; omega⟩ : Fin 16384) j) := by
  blk_point [iblk, V, idx t]

theorem read1 (c : Dev nD) (t : Fin cfg0.N) (j : Fin 1024) :
    iblk m c 1 t (ix2 0 j) = m ((c : Thread nD τ).loc main_arg1) (ix1 j) := by
  blk_point [iblk, V, idx t]

theorem read2u (c : Dev nD) (t : Fin cfg0.N) (j : Fin 1024) (k : Fin 2048) :
    View.ld (iblk m c 2 t) (Rect.unit ![0, 0] ![1024, 2048] inb_S1024x4096_S1024x2048_0_0) (ix2 j k)
      = m ((c : Thread nD τ).loc main_arg2) (ix2 j (⟨k, by omega⟩ : Fin 4096)) := by
  pointwise []
  blk_point [iblk, V, idx t]

theorem read2v (c : Dev nD) (t : Fin cfg0.N) (j : Fin 1024) (k : Fin 2048) :
    View.ld (iblk m c 2 t) (Rect.unit ![0, 2048] ![1024, 2048] inb_S1024x4096_S1024x2048_0_2048) (ix2 j k)
      = m ((c : Thread nD τ).loc main_arg2) (ix2 j (⟨2048 + k, by omega⟩ : Fin 4096)) := by
  pointwise []
  blk_point [iblk, V, idx t]

theorem read3 (c : Dev nD) (t : Fin cfg0.N) (j : Fin 2048) :
    iblk m c 3 t (ix2 0 j) = m ((c : Thread nD τ).loc main_arg3) (ix1 j) := by
  blk_point [iblk, V, idx t]

theorem read4 (c : Dev nD) (t : Fin cfg0.N) (j : Fin 2048) :
    iblk m c 4 t (ix2 0 j) = m ((c : Thread nD τ).loc main_arg4) (ix1 j) := by
  blk_point [iblk, V, idx t]

theorem read5 (c : Dev nD) (t : Fin cfg0.N) (g : Fin 8) (r s : Fin 128) :
    iblk m c 5 t (ix3 g r s) = m ((c : Thread nD τ).loc main_arg5) (ix3 g r s) := by
  blk_point [iblk, V, idx t]

theorem read6 (c : Dev nD) (t : Fin cfg0.N) (r : Fin 128) (k : Fin 2048) :
    iblk m c 6 t (ix2 r k) = m ((c : Thread nD τ).loc main_arg6) (ix2 (⟨(k : ℕ) / 256, by omega⟩ : Fin 8) r) := by
  blk_point [iblk, V, idx t]

theorem read7 (c : Dev nD) (t : Fin cfg0.N) (k : Fin 2048) (j : Fin 1024) :
    iblk m c 7 t (ix2 k j) = m ((c : Thread nD τ).loc main_arg7) (ix2 k j) := by
  blk_point [iblk, V, idx t]

/-- Where the result's block lies. -/
theorem emb8 (t : Fin cfg0.N) (r : Fin 512) (j : Fin 1024) :
    ((cfg0.win 8).blk t).view.emb (ix2 r j) = (ix2 (⟨512 * t.val + r, by have : t.val < 32 := t.isLt; omega⟩ : Fin 16384) j : S16384x1024.Idx) := by
  blk_point [idx t]

set_option maxHeartbeats 1600000 in
/-- What grid point `t` stores, read at an entry of its block, is the reference there. -/
theorem point (c : Dev nD) (t : Fin cfg0.N) (y : S512x1024.Idx) :
    outsAt0 m c t y
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (((cfg0.win 8).blk t).view.emb y) := by
  have ht : t.val < 32 := t.isLt
  idx_vars y
  rw [out_eq]
  refine (kernel_at _ _ _ _ _ _ _ _ _ _ _).trans (Eq.trans ?_ ((ref_at _ _ _ _ _ _ _ _ _ _).symm.trans (congrArg _ (emb8 t _ _).symm)))
  have e1 : ∀ (r : Fin 512) h, (⟨(512 * t.val + r) % 128, h⟩ : Fin 128) = ⟨r % 128, by omega⟩ := fun r _ => Fin.ext (show (512 * t.val + r.val) % 128 = r.val % 128 by omega)
  have e2 : ∀ (r : Fin 512) (s : Fin 128) h h', (⟨512 * t.val + (⟨r / 128 * 128 + s, h⟩ : Fin 512), h'⟩ : Fin 16384) = ⟨(512 * t.val + r) / 128 * 128 + s, by omega⟩ :=
    fun r s _ _ => Fin.ext (show 512 * t.val + (r.val / 128 * 128 + s.val) = (512 * t.val + r.val) / 128 * 128 + s.val by omega)
  simp only [read0, read1, read2u, read2v, read3, read4, read5, read6, read7, e1, e2]

/-- The result array after the run is the reference's result. -/
theorem final (c : Dev nD) : (dats m 0 c).arrAt 8 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t _ y => ?_
  blk_simp
  rw [after0_8]
  exact point m c t y

end Cert.KernelIdeal.RefValue

end
-- ==== Proof.FfnValue.lean ====
/- The feed-forward half-step without the closing norm: what the kernel leaves in its result array is the
   reference's result. The kernel takes the hidden dimension in two halves of 1408; the reference takes the
   whole dimension of 2816 in one product, so the reference's sum is cut in two. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference3Ideal.RefValue

open Cert.Reference3Ideal Cert.Reference3Ideal.Gen

/-- The root-mean-square norm of every row of `h`, scaled by `g`. -/
def NORM (h : FVec Ideal S16384x1024 .f32) (g : FVec Ideal S1024 .f32) : FVec Ideal S16384x1024 .f32 :=
  mulf (mulf h (broadcastInDim S16384x1024 ![0, 1] bcast_S16384x1_S16384x1024_0_1 (Host.rsqrt (addf (Host.divf (broadcastInDim S16384x1 ![0] bcast_S16384_S16384x1_0 (Host.reduceAdd (mulf h h) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- Gate and up projection, side by side. -/
def GU (h : FVec Ideal S16384x1024 .f32) (g : FVec Ideal S1024 .f32) (w : FVec Ideal S1024x5632 .f32) :
    FVec Ideal S16384x5632 .f32 :=
  Host.dotGeneral dot_S16384x1024_S1024x5632_S16384x5632_1_0_0_1_n_n none (NORM h g) w

/-- The gated hidden activations. -/
def ACT (u : FVec Ideal S16384x5632 .f32) : FVec Ideal S16384x2816 .f32 :=
  mulf (mulf (extractStridedSlice S16384x2816 ![0, 0] u slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] u slices_S16384x5632_S16384x2816_0_0)))))) (extractStridedSlice S16384x2816 ![0, 2816] u slices_S16384x5632_S16384x2816_0_2816)

/-- The reference's result, over its arguments. -/
def REF (h : FVec Ideal S16384x1024 .f32) (g : FVec Ideal S1024 .f32) (w : FVec Ideal S1024x5632 .f32)
    (d : FVec Ideal S2816x1024 .f32) : FVec Ideal S16384x1024 .f32 :=
  addf h (mulf (broadcastInDim S16384x1024 ![] bcast_S_S16384x1024 (constant S_ .f32 0x3F000000#32)) (Host.dotGeneral dot_S16384x2816_S2816x1024_S16384x1024_1_0_0_1_n_n none (ACT (GU h g w)) d))

end Cert.Reference3Ideal.RefValue

namespace Cert.Kernel3Ideal.RefValue

open Cert.Kernel3Ideal Cert.Kernel3Ideal.Gen Cert.Reference3Ideal.RefValue

variable (m : (ℓ : Loc nD τ sig) → Buf (Elt Ideal) ℓ)

/-- The block of every window at every grid point: the rows move with the point, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

set_option maxHeartbeats 1600000 in
/-- What grid point `t` stores, read at an entry of its block, is the reference there. -/
theorem point (c : Dev nD) (t : Fin cfg0.N) (y : S512x1024.Idx) :
    k0_pay1 (iblk m c 0 t)
      (k0_pay3 (iblk m c 0 t) (iblk m c 1 t) (View.ld (iblk m c 2 t) r0_2) (View.ld (iblk m c 3 t) r0_2) (View.ld (iblk m c 4 t) r0_3))
      (k0_pay4 (iblk m c 0 t) (iblk m c 1 t) (View.ld (iblk m c 3 t) r0_4))
      (k0_pay5 (iblk m c 0 t) (iblk m c 1 t) (View.ld (iblk m c 2 t) r0_4)) (View.ld (iblk m c 4 t) r0_5) y
      = REF (m ((c : Thread nD τ).loc main_arg0)) (m ((c : Thread nD τ).loc main_arg1)) (m ((c : Thread nD τ).loc main_arg2))
          (m ((c : Thread nD τ).loc main_arg3)) (((cfg0.win 6).blk t).view.emb y) := by
  pointwise [k0_pay1, k0_pay2, k0_pay3, k0_pay4, k0_pay5, r0_2, r0_3, r0_4, r0_5, REF, ACT, GU, NORM, Ideal.logistic]
  rw [Fin.sum_univ_two_halves 1408 1408 rfl]
  blk_point [iblk, V, idx t]

/-- The result array after the run is the reference's result. -/
theorem final (c : Dev nD) : (dats m 0 c).arrAt 6 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t _ y => ?_
  blk_simp
  rw [after0_6]; frame_out
  exact point m c t y

end Cert.Kernel3Ideal.RefValue

end
-- ==== Proof.FfnFinalValue.lean ====
/- The feed-forward half-step followed by the closing norm (the last of the eight applications): what the kernel
   leaves in its result array is the reference's result. -/
module

public import proofs.«01_k».proof.Proof.Gen.Kernel2Ideal.Value
public import proofs.«01_k».proof.Proof.Gen.Reference2Ideal.Run
public import proofs.«01_k».proof.Proof.FfnValue
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.RefValue

open Cert.Kernel2Ideal Cert.Kernel2Ideal.Gen Cert.Reference3Ideal.RefValue

/-- The reference's result, over its arguments: the closing norm of the half-step's result. -/
def REFN (h : FVec Ideal S16384x1024 .f32) (g : FVec Ideal S1024 .f32) (w : FVec Ideal S1024x5632 .f32)
    (d : FVec Ideal S2816x1024 .f32) (fg : FVec Ideal S1024 .f32) : FVec Ideal S16384x1024 .f32 :=
  NORM (REF h g w d) fg

variable (m : (ℓ : Loc nD τ sig) → Buf (Elt Ideal) ℓ)

/-- The block of every window at every grid point: the rows move with the point, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

set_option maxHeartbeats 1600000 in
/-- What grid point `t` stores, read at an entry of its block, is the reference there. -/
theorem point (c : Dev nD) (t : Fin cfg0.N) (y : S512x1024.Idx) :
    k0_pay1 (iblk m c 0 t)
      (k0_pay3 (iblk m c 0 t) (iblk m c 1 t) (View.ld (iblk m c 2 t) r0_2) (View.ld (iblk m c 3 t) r0_2) (View.ld (iblk m c 4 t) r0_3))
      (k0_pay4 (iblk m c 0 t) (iblk m c 1 t) (View.ld (iblk m c 3 t) r0_4))
      (k0_pay5 (iblk m c 0 t) (iblk m c 1 t) (View.ld (iblk m c 2 t) r0_4)) (View.ld (iblk m c 4 t) r0_5) (iblk m c 5 t) y
      = REFN (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 6).blk t).view.emb y) := by
  pointwise [k0_pay1, k0_pay2, k0_pay3, k0_pay4, k0_pay5, r0_2, r0_3, r0_4, r0_5, REFN, REF, ACT, GU, NORM, Ideal.logistic]
  simp only [Fin.sum_univ_two_halves 1408 1408 (rfl : 1408 + 1408 = 2816)]
  blk_point [iblk, V, idx t]

/-- The reference's result is that composition. -/
theorem res_eq (m : (ℓ : Loc Cert.Reference2Ideal.nD Cert.Reference2Ideal.τ Cert.Reference2Ideal.sig) → Buf (Elt Ideal) ℓ)
    (c : Dev Cert.Reference2Ideal.nD) :
    Cert.Reference2Ideal.Value.res_main_v34 m c
      = REFN (m ((c : Thread Cert.Reference2Ideal.nD Cert.Reference2Ideal.τ).loc Cert.Reference2Ideal.main_arg0))
          (m ((c : Thread Cert.Reference2Ideal.nD Cert.Reference2Ideal.τ).loc Cert.Reference2Ideal.main_arg1))
          (m ((c : Thread Cert.Reference2Ideal.nD Cert.Reference2Ideal.τ).loc Cert.Reference2Ideal.main_arg2))
          (m ((c : Thread Cert.Reference2Ideal.nD Cert.Reference2Ideal.τ).loc Cert.Reference2Ideal.main_arg3))
          (m ((c : Thread Cert.Reference2Ideal.nD Cert.Reference2Ideal.τ).loc Cert.Reference2Ideal.main_arg4)) := rfl

/-- The result array after the run is the reference's result. -/
theorem final (c : Dev nD) : (dats m 0 c).arrAt 6 (cfgs 0).N
    = REFN (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]; frame_out
  exact point m c t y

end Cert.Kernel2Ideal.RefValue

end
-- ==== Proof.EvenInFrameIdeal.lean ====
/- The frame of `Kernel5Ideal`, the projections of the even layers: @main up to its region, each window's block at a point, what
   the body leaves in each output's buffer, and the run. The steps follow the generated frame of the smaller calls; with 24
   windows, the body's obligation and the two restatements around it need higher limits, set where they are needed. -/
module

public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1440000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel5Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's accesses -/

abbrev r0_0 : Rect S512x1024 := Rect.unit (s := S512x1024) ![0, 0] S512x1024.size inb_S512x1024_S512x1024_0_0
abbrev r0_1 : Rect S1x1024 := Rect.unit (s := S1x1024) ![0, 0] S1x1024.size inb_S1x1024_S1x1024_0_0
abbrev r0_2 : Rect S1024x3712 := Rect.unit (s := S1024x3712) ![0, 0] S1024x1024.size inb_S1024x3712_S1024x1024_0_0
abbrev r0_3 : Rect S1024x3712 := Rect.unit (s := S1024x3712) ![0, 1024] S1024x1536.size inb_S1024x3712_S1024x1536_0_1024
abbrev r0_4 : Rect S512x1536 := Rect.unit (s := S512x1536) ![0, 0] S512x1536.size inb_S512x1536_S512x1536_0_0
abbrev r0_5 : Rect S1024x3712 := Rect.unit (s := S1024x3712) ![0, 2560] S1024x1024.size inb_S1024x3712_S1024x1024_0_2560
abbrev r0_6 : Rect S512x128 := Rect.unit (s := S512x128) ![0, 0] S512x128.size inb_S512x128_S512x128_0_0
abbrev r0_7 : Rect S512x1024 := Rect.unit (s := S512x1024) ![0, 0] S512x128.size inb_S512x1024_S512x128_0_0
abbrev r0_8 : Rect S512x1024 := Rect.unit (s := S512x1024) ![0, 128] S512x128.size inb_S512x1024_S512x128_0_128
abbrev r0_9 : Rect S512x1024 := Rect.unit (s := S512x1024) ![0, 256] S512x128.size inb_S512x1024_S512x128_0_256
abbrev r0_10 : Rect S512x1024 := Rect.unit (s := S512x1024) ![0, 384] S512x128.size inb_S512x1024_S512x128_0_384
abbrev r0_11 : Rect S512x1024 := Rect.unit (s := S512x1024) ![0, 512] S512x128.size inb_S512x1024_S512x128_0_512
abbrev r0_12 : Rect S512x1024 := Rect.unit (s := S512x1024) ![0, 640] S512x128.size inb_S512x1024_S512x128_0_640
abbrev r0_13 : Rect S512x1024 := Rect.unit (s := S512x1024) ![0, 768] S512x128.size inb_S512x1024_S512x128_0_768
abbrev r0_14 : Rect S512x1024 := Rect.unit (s := S512x1024) ![0, 896] S512x128.size inb_S512x1024_S512x128_0_896
abbrev r0_15 : Rect S1024x3712 := Rect.unit (s := S1024x3712) ![0, 3584] S1024x128.size inb_S1024x3712_S1024x128_0_3584
abbrev r0_16 : Rect S512x64 := Rect.unit (s := S512x64) ![0, 0] S512x64.size inb_S512x64_S512x64_0_0
abbrev r0_17 : Rect S2592x1024 := Rect.unit (s := S2592x1024) ![0, 0] S1024x1024.size inb_S2592x1024_S1024x1024_0_0
abbrev r0_18 : Rect S16x512 := Rect.unit (s := S16x512) ![0, 0] S16x512.size inb_S16x512_S16x512_0_0
abbrev r0_19 : Rect S1024x512 := Rect.unit (s := S1024x512) ![0, 0] S128x512.size inb_S1024x512_S128x512_0_0
abbrev r0_20 : Rect S1024x512 := Rect.unit (s := S1024x512) ![128, 0] S128x512.size inb_S1024x512_S128x512_128_0
abbrev r0_21 : Rect S1024x512 := Rect.unit (s := S1024x512) ![256, 0] S128x512.size inb_S1024x512_S128x512_256_0
abbrev r0_22 : Rect S1024x512 := Rect.unit (s := S1024x512) ![384, 0] S128x512.size inb_S1024x512_S128x512_384_0
abbrev r0_23 : Rect S1024x512 := Rect.unit (s := S1024x512) ![512, 0] S128x512.size inb_S1024x512_S128x512_512_0
abbrev r0_24 : Rect S1024x512 := Rect.unit (s := S1024x512) ![640, 0] S128x512.size inb_S1024x512_S128x512_640_0
abbrev r0_25 : Rect S1024x512 := Rect.unit (s := S1024x512) ![768, 0] S128x512.size inb_S1024x512_S128x512_768_0
abbrev r0_26 : Rect S1024x512 := Rect.unit (s := S1024x512) ![896, 0] S128x512.size inb_S1024x512_S128x512_896_0
abbrev r0_27 : Rect S2592x1024 := Rect.unit (s := S2592x1024) ![1024, 0] S1024x1024.size inb_S2592x1024_S1024x1024_1024_0
abbrev r0_28 : Rect S1024x512 := Rect.unit (s := S1024x512) ![0, 0] S1024x512.size inb_S1024x512_S1024x512_0_0
abbrev r0_29 : Rect S2592x1024 := Rect.unit (s := S2592x1024) ![2560, 0] S32x1024.size inb_S2592x1024_S32x1024_2560_0
abbrev r0_30 : Rect S16x512 := Rect.unit (s := S16x512) ![0, 0] S8x512.size inb_S16x512_S8x512_0_0
abbrev r0_31 : Rect S16x512 := Rect.unit (s := S16x512) ![8, 0] S8x512.size inb_S16x512_S8x512_8_0
abbrev r0_32 : Rect S2592x1024 := Rect.unit (s := S2592x1024) ![2048, 0] S512x1024.size inb_S2592x1024_S512x1024_2048_0
abbrev r0_33 : Rect S8x512 := Rect.unit (s := S8x512) ![0, 0] S8x512.size inb_S8x512_S8x512_0_0
abbrev r0_34 : Rect S512x512 := Rect.unit (s := S512x512) ![0, 0] S64x512.size inb_S512x512_S64x512_0_0
abbrev r0_35 : Rect S512x512 := Rect.unit (s := S512x512) ![64, 0] S64x512.size inb_S512x512_S64x512_64_0
abbrev r0_36 : Rect S512x512 := Rect.unit (s := S512x512) ![128, 0] S64x512.size inb_S512x512_S64x512_128_0
abbrev r0_37 : Rect S512x512 := Rect.unit (s := S512x512) ![192, 0] S64x512.size inb_S512x512_S64x512_192_0
abbrev r0_38 : Rect S512x512 := Rect.unit (s := S512x512) ![256, 0] S64x512.size inb_S512x512_S64x512_256_0
abbrev r0_39 : Rect S512x512 := Rect.unit (s := S512x512) ![320, 0] S64x512.size inb_S512x512_S64x512_320_0
abbrev r0_40 : Rect S512x512 := Rect.unit (s := S512x512) ![384, 0] S64x512.size inb_S512x512_S64x512_384_0
abbrev r0_41 : Rect S512x512 := Rect.unit (s := S512x512) ![448, 0] S64x512.size inb_S512x512_S64x512_448_0

/-! ## What the body leaves in each output window's buffer -/

/-! ### Values of the body that the stores' payloads, spelt out, would write more than once

    Each is a vector the body binds (often a part call's result), stated over the input windows' blocks and
    numbered on from the skeleton's payload functions (`k0_pay65` …, after `k0_pay64`), so that
    `out0_W` and the values after it name it instead of spelling it out; the comment after each is the printed function's
    name for the value (a count appended where that name is bound again). -/

def k0_pay65 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : FVec F S512x1024 .bf16 :=
  k0_pay2 (View.ld x0 r0_0) (View.ld x1 r0_1) -- `v15`
def k0_pay66 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : FVec F S1024x512 .bf16 :=
  k0_pay3 (View.ld x0 r0_0) (View.ld x1 r0_1) -- `v17`
def k0_pay67 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : FVec F S512x1024 .f32 :=
  k0_pay6 (View.ld x0 r0_0) (View.ld x1 r0_1) (View.ld x2 r0_5) -- `v28`
def k0_pay68 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : FVec F S512x128 .f32 :=
  k0_pay7 (View.ld x4 r0_6) -- `v30`
def k0_pay69 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : FVec F S512x128 .f32 :=
  k0_pay8 (View.ld x5 r0_6) -- `v32`
def k0_pay70 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : FVec F S512x128 .f32 :=
  k0_pay9 (View.ld x6 r0_6) -- `v34`
def k0_pay71 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : FVec F S1024x512 .f32 :=
  k0_pay20 (k0_pay66 x0 x1 x2 x3 x4 x5 x6 x7 x8 x9 x10 x11 x12 x13) (View.ld x3 r0_17) -- `v137`
def k0_pay72 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : FVec F S16x512 .f32 :=
  k0_pay21 (View.ld x10 r0_18) -- `v139`
def k0_pay73 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : FVec F S16x512 .f32 :=
  k0_pay22 (View.ld x11 r0_18) -- `v141`
def k0_pay74 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : FVec F S8x512 .f32 :=
  k0_pay45 (k0_pay66 x0 x1 x2 x3 x4 x5 x6 x7 x8 x9 x10 x11 x12 x13) (View.ld x3 r0_29) -- `v272`
def k0_pay75 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : IVec S8x512 1 :=
  k0_pay47 (k0_pay66 x0 x1 x2 x3 x4 x5 x6 x7 x8 x9 x10 x11 x12 x13) (View.ld x3 r0_29) -- `v276`
def k0_pay76 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : FVec F S512x512 .f32 :=
  k0_pay52 (k0_pay66 x0 x1 x2 x3 x4 x5 x6 x7 x8 x9 x10 x11 x12 x13) (View.ld x3 r0_32) -- `v287`
def k0_pay77 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : FVec F S8x512 .f32 :=
  k0_pay53 (View.ld x12 r0_33) -- `v289`
def k0_pay78 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : FVec F S8x512 .f32 :=
  k0_pay54 (View.ld x13 r0_33) -- `v291`

/-- Window 14's staging buffer after the body, from the input windows' blocks: its 1 store as pieces, LAST
    FIRST (Lib/Pipeline/FrameBody.lean `View.canon`; the payloads are the skeleton's and the values stated above). -/
def out0_14 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : Vec F S512x1024 .f32 :=
  View.canon [⟨r0_0, k0_pay4 (View.ld x0 r0_0) (View.ld x1 r0_1) (View.ld x2 r0_2)⟩]

/-- Its stores tile the buffer (checked by evaluation), so they cover it. -/
theorem cover0_14 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-- Window 15's staging buffer after the body, from the input windows' blocks: its 1 store as pieces, LAST
    FIRST (Lib/Pipeline/FrameBody.lean `View.canon`; the payloads are the skeleton's and the values stated above). -/
def out0_15 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : Vec F S512x1536 .f32 :=
  View.canon [⟨r0_4, k0_pay5 (View.ld x0 r0_0) (View.ld x1 r0_1) (View.ld x2 r0_3)⟩]

/-- Its stores tile the buffer (checked by evaluation), so they cover it. -/
theorem cover0_15 (p0 : Vec F S512x1536 .f32) (y : S512x1536.Idx) :
    ∃ pc ∈ ([⟨r0_4, p0⟩] : List (View.Piece (Elt F) S512x1536 .f32)), y ∈ pc.1.set :=
  View.cover_of_tiled [⟨r0_4, p0⟩] S512x1536.size (by rfl) y

/-- Window 16's staging buffer after the body, from the input windows' blocks: its 1 store as pieces, LAST
    FIRST (Lib/Pipeline/FrameBody.lean `View.canon`; the payloads are the skeleton's and the values stated above). -/
def out0_16 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : Vec F S512x128 .f32 :=
  View.canon [⟨r0_6, k0_pay18 (k0_pay65 x0 x1 x2 x3 x4 x5 x6 x7 x8 x9 x10 x11 x12 x13) (View.ld x2 r0_15)⟩]

/-- Its stores tile the buffer (checked by evaluation), so they cover it. -/
theorem cover0_16 (p0 : Vec F S512x128 .f32) (y : S512x128.Idx) :
    ∃ pc ∈ ([⟨r0_6, p0⟩] : List (View.Piece (Elt F) S512x128 .f32)), y ∈ pc.1.set :=
  View.cover_of_tiled [⟨r0_6, p0⟩] S512x128.size (by rfl) y

/-- Window 17's staging buffer after the body, from the input windows' blocks: its 8 stores as pieces, LAST
    FIRST (Lib/Pipeline/FrameBody.lean `View.canon`; the payloads are the skeleton's and the values stated above). -/
def out0_17 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : Vec F S512x1024 .bf16 :=
  View.canon [⟨r0_14, k0_pay17 (k0_pay67 x0 x1 x2 x3 x4 x5 x6 x7 x8 x9 x10 x11 x12 x13) (k0_pay68 x0 x1 x2 x3 x4 x5 x6 x7 x8 x9 x10 x11 x12 x13) (k0_pay69 x0 x1 x2 x3 x4 x5 x6 x7 x8 x9 x10 x11 x12 x13) (k0_pay70 x0 x1 x2 x3 x4 x5 x6 x7 x8 x9 x10 x11 x12 x13)⟩,
    ⟨r0_13, k0_pay16 (k0_pay67 x0 x1 x2 x3 x4 x5 x6 x7 x8 x9 x10 x11 x12 x13) (k0_pay68 x0 x1 x2 x3 x4 x5 x6 x7 x8 x9 x10 x11 x12 x13) (k0_pay69 x0 x1 x2 x3 x4 x5 x6 x7 x8 x9 x10 x11 x12 x13) (k0_pay70 x0 x1 x2 x3 x4 x5 x6 x7 x8 x9 x10 x11 x12 x13)⟩,
    ⟨r0_12, k0_pay15 (k0_pay67 x0 x1 x2 x3 x4 x5 x6 x7 x8 x9 x10 x11 x12 x13) (k0_pay68 x0 x1 x2 x3 x4 x5 x6 x7 x8 x9 x10 x11 x12 x13) (k0_pay69 x0 x1 x2 x3 x4 x5 x6 x7 x8 x9 x10 x11 x12 x13) (k0_pay70 x0 x1 x2 x3 x4 x5 x6 x7 x8 x9 x10 x11 x12 x13)⟩,
    ⟨r0_11, k0_pay14 (k0_pay67 x0 x1 x2 x3 x4 x5 x6 x7 x8 x9 x10 x11 x12 x13) (k0_pay68 x0 x1 x2 x3 x4 x5 x6 x7 x8 x9 x10 x11 x12 x13) (k0_pay69 x0 x1 x2 x3 x4 x5 x6 x7 x8 x9 x10 x11 x12 x13) (k0_pay70 x0 x1 x2 x3 x4 x5 x6 x7 x8 x9 x10 x11 x12 x13)⟩,
    ⟨r0_10, k0_pay13 (k0_pay67 x0 x1 x2 x3 x4 x5 x6 x7 x8 x9 x10 x11 x12 x13) (k0_pay68 x0 x1 x2 x3 x4 x5 x6 x7 x8 x9 x10 x11 x12 x13) (k0_pay69 x0 x1 x2 x3 x4 x5 x6 x7 x8 x9 x10 x11 x12 x13) (View.ld x6 r0_6)⟩,
    ⟨r0_9, k0_pay12 (k0_pay67 x0 x1 x2 x3 x4 x5 x6 x7 x8 x9 x10 x11 x12 x13) (k0_pay68 x0 x1 x2 x3 x4 x5 x6 x7 x8 x9 x10 x11 x12 x13) (k0_pay69 x0 x1 x2 x3 x4 x5 x6 x7 x8 x9 x10 x11 x12 x13) (View.ld x6 r0_6)⟩,
    ⟨r0_8, k0_pay11 (k0_pay67 x0 x1 x2 x3 x4 x5 x6 x7 x8 x9 x10 x11 x12 x13) (k0_pay68 x0 x1 x2 x3 x4 x5 x6 x7 x8 x9 x10 x11 x12 x13) (k0_pay69 x0 x1 x2 x3 x4 x5 x6 x7 x8 x9 x10 x11 x12 x13) (View.ld x6 r0_6)⟩,
    ⟨r0_7, k0_pay10 (k0_pay67 x0 x1 x2 x3 x4 x5 x6 x7 x8 x9 x10 x11 x12 x13) (k0_pay68 x0 x1 x2 x3 x4 x5 x6 x7 x8 x9 x10 x11 x12 x13) (k0_pay69 x0 x1 x2 x3 x4 x5 x6 x7 x8 x9 x10 x11 x12 x13) (View.ld x6 r0_6)⟩]

/-- Its stores tile the buffer (checked by evaluation), so they cover it. -/
theorem cover0_17 (p0 : Vec F S512x128 .bf16) (p1 : Vec F S512x128 .bf16) (p2 : Vec F S512x128 .bf16) (p3 : Vec F S512x128 .bf16) (p4 : Vec F S512x128 .bf16) (p5 : Vec F S512x128 .bf16) (p6 : Vec F S512x128 .bf16) (p7 : Vec F S512x128 .bf16) (y : S512x1024.Idx) :
    ∃ pc ∈ ([⟨r0_14, p0⟩, ⟨r0_13, p1⟩, ⟨r0_12, p2⟩, ⟨r0_11, p3⟩, ⟨r0_10, p4⟩, ⟨r0_9, p5⟩, ⟨r0_8, p6⟩, ⟨r0_7, p7⟩] : List (View.Piece (Elt F) S512x1024 .bf16)), y ∈ pc.1.set :=
  View.cover_of_tiled [⟨r0_14, p0⟩, ⟨r0_13, p1⟩, ⟨r0_12, p2⟩, ⟨r0_11, p3⟩, ⟨r0_10, p4⟩, ⟨r0_9, p5⟩, ⟨r0_8, p6⟩, ⟨r0_7, p7⟩] S512x128.size (by rfl) y

/-- Window 18's staging buffer after the body, from the input windows' blocks: its 1 store as pieces, LAST
    FIRST (Lib/Pipeline/FrameBody.lean `View.canon`; the payloads are the skeleton's and the values stated above). -/
def out0_18 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : Vec F S512x64 .bf16 :=
  View.canon [⟨r0_16, k0_pay19 (k0_pay65 x0 x1 x2 x3 x4 x5 x6 x7 x8 x9 x10 x11 x12 x13) (View.ld x2 r0_15) (View.ld x7 r0_6) (View.ld x8 r0_6) (View.ld x9 r0_6)⟩]

/-- Its stores tile the buffer (checked by evaluation), so they cover it. -/
theorem cover0_18 (p0 : Vec F S512x64 .bf16) (y : S512x64.Idx) :
    ∃ pc ∈ ([⟨r0_16, p0⟩] : List (View.Piece (Elt F) S512x64 .bf16)), y ∈ pc.1.set :=
  View.cover_of_tiled [⟨r0_16, p0⟩] S512x64.size (by rfl) y

/-- Window 19's staging buffer after the body, from the input windows' blocks: its 8 stores as pieces, LAST
    FIRST (Lib/Pipeline/FrameBody.lean `View.canon`; the payloads are the skeleton's and the values stated above). -/
def out0_19 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : Vec F S1024x512 .bf16 :=
  View.canon [⟨r0_26, k0_pay42 (k0_pay71 x0 x1 x2 x3 x4 x5 x6 x7 x8 x9 x10 x11 x12 x13) (k0_pay72 x0 x1 x2 x3 x4 x5 x6 x7 x8 x9 x10 x11 x12 x13) (k0_pay73 x0 x1 x2 x3 x4 x5 x6 x7 x8 x9 x10 x11 x12 x13)⟩,
    ⟨r0_25, k0_pay41 (k0_pay40 (k0_pay71 x0 x1 x2 x3 x4 x5 x6 x7 x8 x9 x10 x11 x12 x13) (k0_pay72 x0 x1 x2 x3 x4 x5 x6 x7 x8 x9 x10 x11 x12 x13) (k0_pay73 x0 x1 x2 x3 x4 x5 x6 x7 x8 x9 x10 x11 x12 x13))⟩,
    ⟨r0_24, k0_pay39 (k0_pay71 x0 x1 x2 x3 x4 x5 x6 x7 x8 x9 x10 x11 x12 x13) (k0_pay72 x0 x1 x2 x3 x4 x5 x6 x7 x8 x9 x10 x11 x12 x13) (k0_pay73 x0 x1 x2 x3 x4 x5 x6 x7 x8 x9 x10 x11 x12 x13)⟩,
    ⟨r0_23, k0_pay38 (k0_pay71 x0 x1 x2 x3 x4 x5 x6 x7 x8 x9 x10 x11 x12 x13) (k0_pay72 x0 x1 x2 x3 x4 x5 x6 x7 x8 x9 x10 x11 x12 x13) (k0_pay73 x0 x1 x2 x3 x4 x5 x6 x7 x8 x9 x10 x11 x12 x13)⟩,
    ⟨r0_22, k0_pay37 (k0_pay31 (k0_pay71 x0 x1 x2 x3 x4 x5 x6 x7 x8 x9 x10 x11 x12 x13)) (k0_pay34 (k0_pay71 x0 x1 x2 x3 x4 x5 x6 x7 x8 x9 x10 x11 x12 x13) (k0_pay72 x0 x1 x2 x3 x4 x5 x6 x7 x8 x9 x10 x11 x12 x13) (k0_pay73 x0 x1 x2 x3 x4 x5 x6 x7 x8 x9 x10 x11 x12 x13)) (k0_pay35 (k0_pay71 x0 x1 x2 x3 x4 x5 x6 x7 x8 x9 x10 x11 x12 x13) (k0_pay73 x0 x1 x2 x3 x4 x5 x6 x7 x8 x9 x10 x11 x12 x13)) (k0_pay36 (k0_pay71 x0 x1 x2 x3 x4 x5 x6 x7 x8 x9 x10 x11 x12 x13) (k0_pay72 x0 x1 x2 x3 x4 x5 x6 x7 x8 x9 x10 x11 x12 x13))⟩,
    ⟨r0_21, k0_pay30 (k0_pay71 x0 x1 x2 x3 x4 x5 x6 x7 x8 x9 x10 x11 x12 x13) (k0_pay72 x0 x1 x2 x3 x4 x5 x6 x7 x8 x9 x10 x11 x12 x13) (k0_pay73 x0 x1 x2 x3 x4 x5 x6 x7 x8 x9 x10 x11 x12 x13)⟩,
    ⟨r0_20, k0_pay29 (k0_pay71 x0 x1 x2 x3 x4 x5 x6 x7 x8 x9 x10 x11 x12 x13) (k0_pay72 x0 x1 x2 x3 x4 x5 x6 x7 x8 x9 x10 x11 x12 x13) (k0_pay73 x0 x1 x2 x3 x4 x5 x6 x7 x8 x9 x10 x11 x12 x13)⟩,
    ⟨r0_19, k0_pay28 (k0_pay72 x0 x1 x2 x3 x4 x5 x6 x7 x8 x9 x10 x11 x12 x13) (k0_pay73 x0 x1 x2 x3 x4 x5 x6 x7 x8 x9 x10 x11 x12 x13) (k0_pay23 (k0_pay66 x0 x1 x2 x3 x4 x5 x6 x7 x8 x9 x10 x11 x12 x13) (View.ld x3 r0_17)) (k0_pay24 (k0_pay66 x0 x1 x2 x3 x4 x5 x6 x7 x8 x9 x10 x11 x12 x13) (View.ld x3 r0_17)) (k0_pay25 (k0_pay66 x0 x1 x2 x3 x4 x5 x6 x7 x8 x9 x10 x11 x12 x13) (View.ld x3 r0_17)) (k0_pay26 (k0_pay66 x0 x1 x2 x3 x4 x5 x6 x7 x8 x9 x10 x11 x12 x13) (View.ld x3 r0_17) (View.ld x10 r0_18)) (k0_pay27 (k0_pay66 x0 x1 x2 x3 x4 x5 x6 x7 x8 x9 x10 x11 x12 x13) (View.ld x3 r0_17) (View.ld x11 r0_18))⟩]

/-- Its stores tile the buffer (checked by evaluation), so they cover it. -/
theorem cover0_19 (p0 : Vec F S128x512 .bf16) (p1 : Vec F S128x512 .bf16) (p2 : Vec F S128x512 .bf16) (p3 : Vec F S128x512 .bf16) (p4 : Vec F S128x512 .bf16) (p5 : Vec F S128x512 .bf16) (p6 : Vec F S128x512 .bf16) (p7 : Vec F S128x512 .bf16) (y : S1024x512.Idx) :
    ∃ pc ∈ ([⟨r0_26, p0⟩, ⟨r0_25, p1⟩, ⟨r0_24, p2⟩, ⟨r0_23, p3⟩, ⟨r0_22, p4⟩, ⟨r0_21, p5⟩, ⟨r0_20, p6⟩, ⟨r0_19, p7⟩] : List (View.Piece (Elt F) S1024x512 .bf16)), y ∈ pc.1.set :=
  View.cover_of_tiled [⟨r0_26, p0⟩, ⟨r0_25, p1⟩, ⟨r0_24, p2⟩, ⟨r0_23, p3⟩, ⟨r0_22, p4⟩, ⟨r0_21, p5⟩, ⟨r0_20, p6⟩, ⟨r0_19, p7⟩] S128x512.size (by rfl) y

/-- Window 20's staging buffer after the body, from the input windows' blocks: its 1 store as pieces, LAST
    FIRST (Lib/Pipeline/FrameBody.lean `View.canon`; the payloads are the skeleton's and the values stated above). -/
def out0_20 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : Vec F S1024x512 .bf16 :=
  View.canon [⟨r0_28, k0_pay43 (k0_pay66 x0 x1 x2 x3 x4 x5 x6 x7 x8 x9 x10 x11 x12 x13) (View.ld x3 r0_27)⟩]

/-- Its stores tile the buffer (checked by evaluation), so they cover it. -/
theorem cover0_20 (p0 : Vec F S1024x512 .bf16) (y : S1024x512.Idx) :
    ∃ pc ∈ ([⟨r0_28, p0⟩] : List (View.Piece (Elt F) S1024x512 .bf16)), y ∈ pc.1.set :=
  View.cover_of_tiled [⟨r0_28, p0⟩] S1024x512.size (by rfl) y

/-- Window 21's staging buffer after the body, from the input windows' blocks: its 8 stores as pieces, LAST
    FIRST (Lib/Pipeline/FrameBody.lean `View.canon`; the payloads are the skeleton's and the values stated above). -/
def out0_21 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : Vec F S512x512 .bf16 :=
  View.canon [⟨r0_41, k0_pay64 (k0_pay74 x0 x1 x2 x3 x4 x5 x6 x7 x8 x9 x10 x11 x12 x13) (k0_pay76 x0 x1 x2 x3 x4 x5 x6 x7 x8 x9 x10 x11 x12 x13) (k0_pay77 x0 x1 x2 x3 x4 x5 x6 x7 x8 x9 x10 x11 x12 x13) (k0_pay78 x0 x1 x2 x3 x4 x5 x6 x7 x8 x9 x10 x11 x12 x13)⟩,
    ⟨r0_40, k0_pay63 (k0_pay74 x0 x1 x2 x3 x4 x5 x6 x7 x8 x9 x10 x11 x12 x13) (k0_pay76 x0 x1 x2 x3 x4 x5 x6 x7 x8 x9 x10 x11 x12 x13) (k0_pay77 x0 x1 x2 x3 x4 x5 x6 x7 x8 x9 x10 x11 x12 x13) (k0_pay78 x0 x1 x2 x3 x4 x5 x6 x7 x8 x9 x10 x11 x12 x13)⟩,
    ⟨r0_39, k0_pay62 (k0_pay74 x0 x1 x2 x3 x4 x5 x6 x7 x8 x9 x10 x11 x12 x13) (k0_pay76 x0 x1 x2 x3 x4 x5 x6 x7 x8 x9 x10 x11 x12 x13) (k0_pay77 x0 x1 x2 x3 x4 x5 x6 x7 x8 x9 x10 x11 x12 x13) (k0_pay78 x0 x1 x2 x3 x4 x5 x6 x7 x8 x9 x10 x11 x12 x13)⟩,
    ⟨r0_38, k0_pay61 (k0_pay74 x0 x1 x2 x3 x4 x5 x6 x7 x8 x9 x10 x11 x12 x13) (k0_pay76 x0 x1 x2 x3 x4 x5 x6 x7 x8 x9 x10 x11 x12 x13) (k0_pay77 x0 x1 x2 x3 x4 x5 x6 x7 x8 x9 x10 x11 x12 x13) (k0_pay78 x0 x1 x2 x3 x4 x5 x6 x7 x8 x9 x10 x11 x12 x13)⟩,
    ⟨r0_37, k0_pay60 (k0_pay74 x0 x1 x2 x3 x4 x5 x6 x7 x8 x9 x10 x11 x12 x13) (k0_pay76 x0 x1 x2 x3 x4 x5 x6 x7 x8 x9 x10 x11 x12 x13) (k0_pay77 x0 x1 x2 x3 x4 x5 x6 x7 x8 x9 x10 x11 x12 x13) (k0_pay78 x0 x1 x2 x3 x4 x5 x6 x7 x8 x9 x10 x11 x12 x13)⟩,
    ⟨r0_36, k0_pay59 (k0_pay74 x0 x1 x2 x3 x4 x5 x6 x7 x8 x9 x10 x11 x12 x13) (k0_pay76 x0 x1 x2 x3 x4 x5 x6 x7 x8 x9 x10 x11 x12 x13) (k0_pay77 x0 x1 x2 x3 x4 x5 x6 x7 x8 x9 x10 x11 x12 x13) (k0_pay78 x0 x1 x2 x3 x4 x5 x6 x7 x8 x9 x10 x11 x12 x13)⟩,
    ⟨r0_35, k0_pay58 (k0_pay56 (k0_pay66 x0 x1 x2 x3 x4 x5 x6 x7 x8 x9 x10 x11 x12 x13) (View.ld x3 r0_32) (View.ld x12 r0_33) (View.ld x13 r0_33)) (k0_pay57 (k0_pay74 x0 x1 x2 x3 x4 x5 x6 x7 x8 x9 x10 x11 x12 x13))⟩,
    ⟨r0_34, k0_pay55 (k0_pay66 x0 x1 x2 x3 x4 x5 x6 x7 x8 x9 x10 x11 x12 x13) (k0_pay74 x0 x1 x2 x3 x4 x5 x6 x7 x8 x9 x10 x11 x12 x13) (View.ld x3 r0_32) (View.ld x12 r0_33) (View.ld x13 r0_33)⟩]

/-- Its stores tile the buffer (checked by evaluation), so they cover it. -/
theorem cover0_21 (p0 : Vec F S64x512 .bf16) (p1 : Vec F S64x512 .bf16) (p2 : Vec F S64x512 .bf16) (p3 : Vec F S64x512 .bf16) (p4 : Vec F S64x512 .bf16) (p5 : Vec F S64x512 .bf16) (p6 : Vec F S64x512 .bf16) (p7 : Vec F S64x512 .bf16) (y : S512x512.Idx) :
    ∃ pc ∈ ([⟨r0_41, p0⟩, ⟨r0_40, p1⟩, ⟨r0_39, p2⟩, ⟨r0_38, p3⟩, ⟨r0_37, p4⟩, ⟨r0_36, p5⟩, ⟨r0_35, p6⟩, ⟨r0_34, p7⟩] : List (View.Piece (Elt F) S512x512 .bf16)), y ∈ pc.1.set :=
  View.cover_of_tiled [⟨r0_41, p0⟩, ⟨r0_40, p1⟩, ⟨r0_39, p2⟩, ⟨r0_38, p3⟩, ⟨r0_37, p4⟩, ⟨r0_36, p5⟩, ⟨r0_35, p6⟩, ⟨r0_34, p7⟩] S64x512.size (by rfl) y

/-- Window 22's staging buffer after the body, from the input windows' blocks: its 2 stores as pieces, LAST
    FIRST (Lib/Pipeline/FrameBody.lean `View.canon`; the payloads are the skeleton's and the values stated above). -/
def out0_22 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : Vec F S16x512 .f32 :=
  View.canon [⟨r0_31, k0_pay51 (F := F) (k0_pay75 x0 x1 x2 x3 x4 x5 x6 x7 x8 x9 x10 x11 x12 x13)⟩,
    ⟨r0_30, k0_pay50 (k0_pay75 x0 x1 x2 x3 x4 x5 x6 x7 x8 x9 x10 x11 x12 x13) (k0_pay48 (F := F)) (k0_pay49 (F := F))⟩]

/-- Its stores tile the buffer (checked by evaluation), so they cover it. -/
theorem cover0_22 (p0 : Vec F S8x512 .f32) (p1 : Vec F S8x512 .f32) (y : S16x512.Idx) :
    ∃ pc ∈ ([⟨r0_31, p0⟩, ⟨r0_30, p1⟩] : List (View.Piece (Elt F) S16x512 .f32)), y ∈ pc.1.set :=
  View.cover_of_tiled [⟨r0_31, p0⟩, ⟨r0_30, p1⟩] S8x512.size (by rfl) y

/-- Window 23's staging buffer after the body, from the input windows' blocks: its 1 store as pieces, LAST
    FIRST (Lib/Pipeline/FrameBody.lean `View.canon`; the payloads are the skeleton's and the values stated above). -/
def out0_23 (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) : Vec F S16x512 .f32 :=
  View.canon [⟨r0_18, k0_pay46 (k0_pay66 x0 x1 x2 x3 x4 x5 x6 x7 x8 x9 x10 x11 x12 x13) (View.ld x3 r0_29)⟩]

/-- Its stores tile the buffer (checked by evaluation), so they cover it. -/
theorem cover0_23 (p0 : Vec F S16x512 .f32) (y : S16x512.Idx) :
    ∃ pc ∈ ([⟨r0_18, p0⟩] : List (View.Piece (Elt F) S16x512 .f32)), y ∈ pc.1.set :=
  View.cover_of_tiled [⟨r0_18, p0⟩] S16x512.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S512x1024 .f32) (harg1 : arg1.IsWhole) (arg2 : Memref sig .tc .vmem S1x1024 .f32) (harg2 : arg2.IsWhole) (arg3 : Memref sig .tc .vmem S1024x3712 .bf16) (harg3 : arg3.IsWhole) (arg4 : Memref sig .tc .vmem S2592x1024 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S8x512 .f32) (harg13 : arg13.IsWhole) (arg14 : Memref sig .tc .vmem S8x512 .f32) (harg14 : arg14.IsWhole) (arg15 : Memref sig .tc .vmem S512x1024 .f32) (harg15 : arg15.IsWhole) (arg16 : Memref sig .tc .vmem S512x1536 .f32) (harg16 : arg16.IsWhole) (arg17 : Memref sig .tc .vmem S512x128 .f32) (harg17 : arg17.IsWhole) (arg18 : Memref sig .tc .vmem S512x1024 .bf16) (harg18 : arg18.IsWhole) (arg19 : Memref sig .tc .vmem S512x64 .bf16) (harg19 : arg19.IsWhole) (arg20 : Memref sig .tc .vmem S1024x512 .bf16) (harg20 : arg20.IsWhole) (arg21 : Memref sig .tc .vmem S1024x512 .bf16) (harg21 : arg21.IsWhole) (arg22 : Memref sig .tc .vmem S512x512 .bf16) (harg22 : arg22.IsWhole) (arg23 : Memref sig .tc .vmem S16x512 .f32) (harg23 : arg23.IsWhole) (arg24 : Memref sig .tc .vmem S16x512 .f32) (harg24 : arg24.IsWhole)
    (x0 : Vec F S512x1024 .f32) (x1 : Vec F S1x1024 .f32) (x2 : Vec F S1024x3712 .bf16) (x3 : Vec F S2592x1024 .bf16) (x4 : Vec F S512x128 .f32) (x5 : Vec F S512x128 .f32) (x6 : Vec F S512x128 .f32) (x7 : Vec F S512x128 .f32) (x8 : Vec F S512x128 .f32) (x9 : Vec F S512x128 .f32) (x10 : Vec F S16x512 .f32) (x11 : Vec F S16x512 .f32) (x12 : Vec F S8x512 .f32) (x13 : Vec F S8x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (out0_14 x0 x1 x2 x3 x4 x5 x6 x7 x8 x9 x10 x11 x12 x13) ∗ owns (c : Thread nD τ) arg16 fullShare (out0_15 x0 x1 x2 x3 x4 x5 x6 x7 x8 x9 x10 x11 x12 x13) ∗ owns (c : Thread nD τ) arg17 fullShare (out0_16 x0 x1 x2 x3 x4 x5 x6 x7 x8 x9 x10 x11 x12 x13) ∗ owns (c : Thread nD τ) arg18 fullShare (out0_17 x0 x1 x2 x3 x4 x5 x6 x7 x8 x9 x10 x11 x12 x13) ∗ owns (c : Thread nD τ) arg19 fullShare (out0_18 x0 x1 x2 x3 x4 x5 x6 x7 x8 x9 x10 x11 x12 x13) ∗ owns (c : Thread nD τ) arg20 fullShare (out0_19 x0 x1 x2 x3 x4 x5 x6 x7 x8 x9 x10 x11 x12 x13) ∗ owns (c : Thread nD τ) arg21 fullShare (out0_20 x0 x1 x2 x3 x4 x5 x6 x7 x8 x9 x10 x11 x12 x13) ∗ owns (c : Thread nD τ) arg22 fullShare (out0_21 x0 x1 x2 x3 x4 x5 x6 x7 x8 x9 x10 x11 x12 x13) ∗ owns (c : Thread nD τ) arg23 fullShare (out0_22 x0 x1 x2 x3 x4 x5 x6 x7 x8 x9 x10 x11 x12 x13) ∗ owns (c : Thread nD τ) arg24 fullShare (out0_23 x0 x1 x2 x3 x4 x5 x6 x7 x8 x9 x10 x11 x12 x13)) -∗ K ⟨⟩))
      ⊢ wp frame (wpE (defs₀ (F := F)) Variants.none c none) E (cc0_even_in i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_even_in_eq_skeleton]; unfold cc0_even_in_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _ _ _ _ _ _ _ _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _ _ _ _ _ _ _ _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _ _ _ _ _ _ _ _)).trans ?_
    rfl
  isplitl [H22]
  · iexists _; isplitr
    swap; · iexact H22
    ipureintro
    refine (View.read_writes_eq_canon _ _ _ (cover0_22 _ _)).trans ?_
    rfl
  iexists _; isplitr
  swap; · iexact H23
  ipureintro
  refine (View.read_writes_eq_canon _ _ _ (cover0_23 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
    | ⟨_ + 24, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  iintro ⟨H0, H1, H2, H3, H4, H5, H6, H7, H8, H9, H10, H11, H12, H13, H14, H15, H16, H17, H18, H19, H20, H21, H22, H23⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_Kernel5Ideal`'s statement (Defs.lean) at any `F`, that is for any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel5Ideal.Gen

end
-- ==== Proof.EvenOutValue.lean ====
/- The output projection of the even layers: what the kernel leaves in its result array is the reference's result.
   The kernel adds the products of its two inputs with the two halves of the weight one after the other; the
   reference lays the inputs side by side and takes one product, so the reference's sum is cut in two. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference6Ideal.RefValue

open Cert.Reference6Ideal Cert.Reference6Ideal.Gen

/-- The reference's result, over its arguments. -/
def REF (h : FVec Ideal S16384x1024 .f32) (y o : FVec Ideal S16384x1024 .bf16) (w : FVec Ideal S2048x1024 .f32) :
    FVec Ideal S16384x1024 .f32 :=
  addf h (Host.dotGeneral dot_S16384x2048_S2048x1024_S16384x1024_1_0_0_1_n_n none
    (concatenate S16384x2048 1 [⟨S16384x1024, y⟩, ⟨S16384x1024, o⟩] concatenates_S16384x1024_S16384x1024_S16384x2048_d1) w)

end Cert.Reference6Ideal.RefValue

namespace Cert.Kernel6Ideal.RefValue

open Cert.Kernel6Ideal Cert.Kernel6Ideal.Gen Cert.Reference6Ideal.RefValue

variable (m : (ℓ : Loc nD τ sig) → Buf (Elt Ideal) ℓ)

/-- The block of every window at every grid point: the rows move with the point, the weights stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

set_option maxHeartbeats 1600000 in
/-- What grid point `t` stores, read at an entry of its block, is the reference there. -/
theorem point (c : Dev nD) (t : Fin cfg0.N) (y : S512x1024.Idx) :
    k0_pay1 (iblk m c 0 t) (iblk m c 1 t) (iblk m c 3 t) (iblk m c 2 t) (iblk m c 4 t) y
      = REF (m ((c : Thread nD τ).loc main_arg0)) (m ((c : Thread nD τ).loc main_arg1)) (m ((c : Thread nD τ).loc main_arg2))
          (m ((c : Thread nD τ).loc main_arg3)) (((cfg0.win 5).blk t).view.emb y) := by
  pointwise [k0_pay1, REF]
  refine (add_assoc _ _ _).trans ?_
  blk_point [iblk, V, idx t]

/-- The result array after the run is the reference's result. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  exact point m c t y

end Cert.Kernel6Ideal.RefValue

end
-- ==== Proof.EvenInRow.lean ====
/- The partial rotation of one head of one row, as plain functions on extended reals. -/
module

public import Idealize.ShloMosaic.Lib.Pointwise

@[expose] public section

noncomputable section

open Idealize.ShloMosaic

namespace Cert.EvenInRow

/-- An attention head of 128 entries: the first 16 are rotated against the next 16, the others stay. -/
def ropeA (x : Fin 128 → EReal) (c s : Fin 16 → EReal) (l : Fin 128) : EReal :=
  if h : l.val < 16 then x l * c ⟨l.val, h⟩ - x ⟨16 + l.val, by omega⟩ * s ⟨l.val, h⟩
  else if h' : l.val - 16 < 16 then
    x ⟨l.val - 16, by omega⟩ * s ⟨l.val - 16, h'⟩ + x ⟨16 + (l.val - 16), by omega⟩ * c ⟨l.val - 16, h'⟩
  else x ⟨32 + (l.val - 16 - 16), by omega⟩

/-- An index head of 64 entries: the first 8 are rotated against the next 8, the others stay. -/
def ropeI (x : Fin 64 → EReal) (c s : Fin 8 → EReal) (l : Fin 64) : EReal :=
  if h : l.val < 8 then x l * c ⟨l.val, h⟩ - x ⟨8 + l.val, by omega⟩ * s ⟨l.val, h⟩
  else if h' : l.val - 8 < 8 then
    x ⟨l.val - 8, by omega⟩ * s ⟨l.val - 8, h'⟩ + x ⟨8 + (l.val - 8), by omega⟩ * c ⟨l.val - 8, h'⟩
  else x ⟨16 + (l.val - 8 - 8), by omega⟩

/-- The rotation as one row of 128 lanes does it: the row times a table, plus the row rolled by `a` and by `b` lanes times
    two further tables. -/
def ropeL (a b : ℕ) (x c lo hi : Fin 128 → EReal) (l : Fin 128) : EReal :=
  x l * c l + x ⟨(l.val + 128 - a) % 128, by omega⟩ * lo l + x ⟨(l.val + 128 - b) % 128, by omega⟩ * hi l

/-- With cosines and ones in the first table, negated sines and zeros in the second, zeros and sines in the third, the lane
    form rotates an attention head. -/
theorem ropeL_eq_ropeA (x : Fin 128 → EReal) (c s : Fin 16 → EReal) (C L H : Fin 128 → EReal)
    (hC : ∀ l, C l = if h : l.val < 16 then c ⟨l.val, h⟩ else if h' : l.val - 16 < 16 then c ⟨l.val - 16, h'⟩ else 1)
    (hL : ∀ l, L l = if h : l.val < 16 then -s ⟨l.val, h⟩ else 0)
    (hH : ∀ l, H l = if h : l.val < 16 then 0 else if h' : l.val - 16 < 16 then s ⟨l.val - 16, h'⟩ else 0) (l : Fin 128) :
    ropeL 112 16 x C L H l = ropeA x c s l := by
  have hl := l.isLt
  simp only [ropeL, ropeA, hC, hL, hH]
  by_cases h : l.val < 16
  · have e : (⟨(l.val + 128 - 112) % 128, by omega⟩ : Fin 128) = ⟨16 + l.val, by omega⟩ := Fin.ext (by simp only; omega)
    simp only [h, ↓reduceDIte, ↓reduceIte, mul_zero, add_zero, mul_neg, sub_eq_add_neg, e]
  · by_cases h' : l.val - 16 < 16
    · have e : (⟨(l.val + 128 - 16) % 128, by omega⟩ : Fin 128) = ⟨l.val - 16, by omega⟩ := Fin.ext (by simp only; omega)
      have e' : (⟨16 + (l.val - 16), by omega⟩ : Fin 128) = l := Fin.ext (by simp only; omega)
      simp only [h, h', ↓reduceDIte, ↓reduceIte, mul_zero, add_zero, e, e']
      exact add_comm _ _
    · have e : (⟨32 + (l.val - 16 - 16), by omega⟩ : Fin 128) = l := Fin.ext (by simp only; omega)
      simp only [h, h', ↓reduceDIte, ↓reduceIte, mul_zero, add_zero, mul_one, e]

/-- The same for an index head that stands in the first 64 lanes of a row. -/
theorem ropeL_eq_ropeI (x : Fin 128 → EReal) (c s : Fin 8 → EReal) (C L H : Fin 128 → EReal)
    (hC : ∀ l, C l = if h : l.val < 8 then c ⟨l.val, h⟩ else if h' : l.val - 8 < 8 then c ⟨l.val - 8, h'⟩ else 1)
    (hL : ∀ l, L l = if h : l.val < 8 then -s ⟨l.val, h⟩ else 0)
    (hH : ∀ l, H l = if h : l.val < 8 then 0 else if h' : l.val - 8 < 8 then s ⟨l.val - 8, h'⟩ else 0) (l : Fin 64) :
    ropeL 120 8 x C L H ⟨l.val, by omega⟩ = ropeI (fun i => x ⟨i.val, by omega⟩) c s l := by
  have hl := l.isLt
  simp only [ropeL, ropeI, hC, hL, hH]
  by_cases h : l.val < 8
  · have e : (⟨(l.val + 128 - 120) % 128, by omega⟩ : Fin 128) = ⟨8 + l.val, by omega⟩ := Fin.ext (by simp only; omega)
    simp only [h, ↓reduceDIte, ↓reduceIte, mul_zero, add_zero, mul_neg, sub_eq_add_neg, e]
  · by_cases h' : l.val - 8 < 8
    · have e : (⟨(l.val + 128 - 8) % 128, by omega⟩ : Fin 128) = ⟨l.val - 8, by omega⟩ := Fin.ext (by simp only; omega)
      have e' : (⟨8 + (l.val - 8), by omega⟩ : Fin 128) = ⟨l.val, by omega⟩ := Fin.ext (by simp only; omega)
      simp only [h, h', ↓reduceDIte, ↓reduceIte, mul_zero, add_zero, e, e']
      exact add_comm _ _
    · have e : (⟨16 + (l.val - 8 - 8), by omega⟩ : Fin 128) = ⟨l.val, by omega⟩ := Fin.ext (by simp only; omega)
      simp only [h, h', ↓reduceDIte, ↓reduceIte, mul_zero, add_zero, mul_one, e]

end Cert.EvenInRow

end
-- ==== Proof.EvenInRef.lean ====
/- The input projection of the even layers: the reference's ten results, each as a function of the projected rows and the
   rotation tables. -/
module

public import proofs.«01_k».proof.Proof.Gen.Reference5Ideal
public import proofs.«01_k».proof.Proof.OddRow
public import proofs.«01_k».proof.Proof.EvenInRow
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Reference5Ideal.RefValue

open Cert.Reference5Ideal Cert.Reference5Ideal.Gen Cert.OddRow Cert.EvenInRow

/-- The projected rows. -/
def PROJ (h : FVec Ideal S16384x1024 .f32) (g : FVec Ideal S1024 .f32) (w : FVec Ideal S1024x6232 .f32) : FVec Ideal S1x16384x6232 .f32 :=
  Host.dotGeneral dot_S1x16384x1024_S1024x6232_S1x16384x6232_2_0_01_1_n_n none (mulf (mulf (broadcastInDim S1x16384x1024 ![1, 2] bcast_S16384x1024_S1x16384x1024_1_2 h) (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf (broadcastInDim S1x16384x1024 ![1, 2] bcast_S16384x1024_S1x16384x1024_1_2 h) (broadcastInDim S1x16384x1024 ![1, 2] bcast_S16384x1024_S1x16384x1024_1_2 h)) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 g))) w

/-- The rotation angles of the attention heads: position by frequency. -/
def ANGA : FVec Ideal S16384x16 .f32 :=
  mulf (broadcastInDim S16384x16 ![0, 1] bcast_S16384x1_S16384x16_0_1 (broadcastInDim S16384x1 ![0] bcast_S16384_S16384x1_0 (sitofp .f32 (iotaInDim S16384 32 0)))) (broadcastInDim S16384x16 ![0, 1] bcast_S1x16_S16384x16_0_1 (broadcastInDim S1x16 ![1] bcast_S16_S1x16_1 (Host.divf (broadcastInDim S16 ![] bcast_S_S16 (constant S_ .f32 0x3F800000#32)) (Host.powf (broadcastInDim S16 ![] bcast_S_S16 (constant S_ .f32 0x48F42400#32)) (Host.divf (addf (broadcastInDim S16 ![] bcast_S_S16 (constant S_ .f32 0x00000000#32)) (mulf (broadcastInDim S16 ![] bcast_S_S16 (constant S_ .f32 0x40000000#32)) (sitofp .f32 (iotaInDim S16 32 0)))) (broadcastInDim S16 ![] bcast_S_S16 (constant S_ .f32 0x42000000#32)))))))

/-- The rotation angles of the index heads: position by frequency. -/
def ANGI : FVec Ideal S16384x8 .f32 :=
  mulf (broadcastInDim S16384x8 ![0, 1] bcast_S16384x1_S16384x8_0_1 (broadcastInDim S16384x1 ![0] bcast_S16384_S16384x1_0 (sitofp .f32 (iotaInDim S16384 32 0)))) (broadcastInDim S16384x8 ![0, 1] bcast_S1x8_S16384x8_0_1 (broadcastInDim S1x8 ![1] bcast_S8_S1x8_1 (Host.divf (broadcastInDim S8 ![] bcast_S_S8 (constant S_ .f32 0x3F800000#32)) (Host.powf (broadcastInDim S8 ![] bcast_S_S8 (constant S_ .f32 0x48F42400#32)) (Host.divf (addf (broadcastInDim S8 ![] bcast_S_S8 (constant S_ .f32 0x00000000#32)) (mulf (broadcastInDim S8 ![] bcast_S_S8 (constant S_ .f32 0x40000000#32)) (sitofp .f32 (iotaInDim S8 32 0)))) (broadcastInDim S8 ![] bcast_S_S8 (constant S_ .f32 0x41800000#32)))))))

/-- Their cosines. -/
def COSA : FVec Ideal S16384x16 .f32 := Host.cos ANGA

/-- Their sines. -/
def SINA : FVec Ideal S16384x16 .f32 := Host.sin ANGA

/-- Their cosines. -/
def COSI : FVec Ideal S16384x8 .f32 := Host.cos ANGI

/-- Their sines. -/
def SINI : FVec Ideal S16384x8 .f32 := Host.sin ANGI

/-- The gate of the recurrence. -/
def ZR (p : FVec Ideal S1x16384x6232 .f32) : FVec Ideal S16384x1024 .f32 :=
  shapeCast _ (extractStridedSlice S1x16384x1024 ![0, 0, 0] p slices_S1x16384x6232_S1x16384x1024_0_0_0) shapeCasts_S1x16384x1024_S16384x1024

/-- The input of the convolution. -/
def XBCR (p : FVec Ideal S1x16384x6232 .f32) : FVec Ideal S16384x1536 .f32 :=
  shapeCast _ (extractStridedSlice S1x16384x1536 ![0, 0, 1024] p slices_S1x16384x6232_S1x16384x1536_0_0_1024) shapeCasts_S1x16384x1536_S16384x1536

/-- The index key before its rotation, the step sizes, and zeros. -/
def SMALLR (p : FVec Ideal S1x16384x6232 .f32) : FVec Ideal S16384x128 .f32 :=
  shapeCast _ ((concatenate S1x16384x128 2 [⟨S1x16384x64, ((extractStridedSlice S1x16384x64 ![0, 0, 6160] p slices_S1x16384x6232_S1x16384x64_0_0_6160))⟩, ⟨S1x16384x16, ((extractStridedSlice S1x16384x16 ![0, 0, 2560] p slices_S1x16384x6232_S1x16384x16_0_0_2560))⟩, ⟨S1x16384x48, ((broadcastInDim S1x16384x48 ![] bcast_S_S1x16384x48 (constant S_ .f32 0x00000000#32)))⟩] concatenates_S1x16384x64_S1x16384x16_S1x16384x48_S1x16384x128_d2)) shapeCasts_S1x16384x128_S16384x128

/-- The rotated keys. -/
def KR (p : FVec Ideal S1x16384x6232 .f32) (ca : FVec Ideal S16384x16 .f32) (sa : FVec Ideal S16384x16 .f32) : FVec Ideal S16384x1024 .bf16 :=
  truncf .bf16 (shapeCast _ (shapeCast _ ((concatenate S1x16384x8x128 3 [⟨S1x16384x8x16, ((subf (mulf (extractStridedSlice S1x16384x8x16 ![0, 0, 0, 0] (shapeCast _ (extractStridedSlice S1x16384x1024 ![0, 0, 3600] p slices_S1x16384x6232_S1x16384x1024_0_0_3600) shapeCasts_S1x16384x1024_S1x16384x8x128) slices_S1x16384x8x128_S1x16384x8x16_0_0_0_0) (broadcastInDim S1x16384x8x16 ![0, 1, 2, 3] bcast_S1x16384x1x16_S1x16384x8x16_0_1_2_3 (broadcastInDim S1x16384x1x16 ![1, 3] bcast_S16384x16_S1x16384x1x16_1_3 ca))) (mulf (extractStridedSlice S1x16384x8x16 ![0, 0, 0, 16] (shapeCast _ (extractStridedSlice S1x16384x1024 ![0, 0, 3600] p slices_S1x16384x6232_S1x16384x1024_0_0_3600) shapeCasts_S1x16384x1024_S1x16384x8x128) slices_S1x16384x8x128_S1x16384x8x16_0_0_0_16) (broadcastInDim S1x16384x8x16 ![0, 1, 2, 3] bcast_S1x16384x1x16_S1x16384x8x16_0_1_2_3 (broadcastInDim S1x16384x1x16 ![1, 3] bcast_S16384x16_S1x16384x1x16_1_3 sa)))))⟩, ⟨S1x16384x8x16, ((addf (mulf (extractStridedSlice S1x16384x8x16 ![0, 0, 0, 0] (shapeCast _ (extractStridedSlice S1x16384x1024 ![0, 0, 3600] p slices_S1x16384x6232_S1x16384x1024_0_0_3600) shapeCasts_S1x16384x1024_S1x16384x8x128) slices_S1x16384x8x128_S1x16384x8x16_0_0_0_0) (broadcastInDim S1x16384x8x16 ![0, 1, 2, 3] bcast_S1x16384x1x16_S1x16384x8x16_0_1_2_3 (broadcastInDim S1x16384x1x16 ![1, 3] bcast_S16384x16_S1x16384x1x16_1_3 sa))) (mulf (extractStridedSlice S1x16384x8x16 ![0, 0, 0, 16] (shapeCast _ (extractStridedSlice S1x16384x1024 ![0, 0, 3600] p slices_S1x16384x6232_S1x16384x1024_0_0_3600) shapeCasts_S1x16384x1024_S1x16384x8x128) slices_S1x16384x8x128_S1x16384x8x16_0_0_0_16) (broadcastInDim S1x16384x8x16 ![0, 1, 2, 3] bcast_S1x16384x1x16_S1x16384x8x16_0_1_2_3 (broadcastInDim S1x16384x1x16 ![1, 3] bcast_S16384x16_S1x16384x1x16_1_3 ca)))))⟩, ⟨S1x16384x8x96, ((extractStridedSlice S1x16384x8x96 ![0, 0, 0, 32] (shapeCast _ (extractStridedSlice S1x16384x1024 ![0, 0, 3600] p slices_S1x16384x6232_S1x16384x1024_0_0_3600) shapeCasts_S1x16384x1024_S1x16384x8x128) slices_S1x16384x8x128_S1x16384x8x96_0_0_0_32))⟩] concatenates_S1x16384x8x16_S1x16384x8x16_S1x16384x8x96_S1x16384x8x128_d3)) shapeCasts_S1x16384x8x128_S1x16384x1024) shapeCasts_S1x16384x1024_S16384x1024) bitsLt_bf16_f32

/-- The rotated index key. -/
def KIR (p : FVec Ideal S1x16384x6232 .f32) (ci : FVec Ideal S16384x8 .f32) (si : FVec Ideal S16384x8 .f32) : FVec Ideal S16384x64 .bf16 :=
  truncf .bf16 (shapeCast _ (shapeCast _ ((concatenate S1x16384x1x64 3 [⟨S1x16384x1x8, ((subf (mulf (extractStridedSlice S1x16384x1x8 ![0, 0, 0, 0] (shapeCast _ (extractStridedSlice S1x16384x64 ![0, 0, 6160] p slices_S1x16384x6232_S1x16384x64_0_0_6160) shapeCasts_S1x16384x64_S1x16384x1x64) slices_S1x16384x1x64_S1x16384x1x8_0_0_0_0) (broadcastInDim S1x16384x1x8 ![1, 3] bcast_S16384x8_S1x16384x1x8_1_3 ci)) (mulf (extractStridedSlice S1x16384x1x8 ![0, 0, 0, 8] (shapeCast _ (extractStridedSlice S1x16384x64 ![0, 0, 6160] p slices_S1x16384x6232_S1x16384x64_0_0_6160) shapeCasts_S1x16384x64_S1x16384x1x64) slices_S1x16384x1x64_S1x16384x1x8_0_0_0_8) (broadcastInDim S1x16384x1x8 ![1, 3] bcast_S16384x8_S1x16384x1x8_1_3 si))))⟩, ⟨S1x16384x1x8, ((addf (mulf (extractStridedSlice S1x16384x1x8 ![0, 0, 0, 0] (shapeCast _ (extractStridedSlice S1x16384x64 ![0, 0, 6160] p slices_S1x16384x6232_S1x16384x64_0_0_6160) shapeCasts_S1x16384x64_S1x16384x1x64) slices_S1x16384x1x64_S1x16384x1x8_0_0_0_0) (broadcastInDim S1x16384x1x8 ![1, 3] bcast_S16384x8_S1x16384x1x8_1_3 si)) (mulf (extractStridedSlice S1x16384x1x8 ![0, 0, 0, 8] (shapeCast _ (extractStridedSlice S1x16384x64 ![0, 0, 6160] p slices_S1x16384x6232_S1x16384x64_0_0_6160) shapeCasts_S1x16384x64_S1x16384x1x64) slices_S1x16384x1x64_S1x16384x1x8_0_0_0_8) (broadcastInDim S1x16384x1x8 ![1, 3] bcast_S16384x8_S1x16384x1x8_1_3 ci))))⟩, ⟨S1x16384x1x48, ((extractStridedSlice S1x16384x1x48 ![0, 0, 0, 16] (shapeCast _ (extractStridedSlice S1x16384x64 ![0, 0, 6160] p slices_S1x16384x6232_S1x16384x64_0_0_6160) shapeCasts_S1x16384x64_S1x16384x1x64) slices_S1x16384x1x64_S1x16384x1x48_0_0_0_16))⟩] concatenates_S1x16384x1x8_S1x16384x1x8_S1x16384x1x48_S1x16384x1x64_d3)) shapeCasts_S1x16384x1x64_S1x16384x64) shapeCasts_S1x16384x64_S16384x64) bitsLt_bf16_f32

/-- The rotated and scaled queries, transposed. -/
def QTR (p : FVec Ideal S1x16384x6232 .f32) (ca : FVec Ideal S16384x16 .f32) (sa : FVec Ideal S16384x16 .f32) : FVec Ideal S1024x16384 .bf16 :=
  truncf .bf16 (transpose S1024x16384 [1, 0] (shapeCast _ (shapeCast _ (mulf ((concatenate S1x16384x8x128 3 [⟨S1x16384x8x16, ((subf (mulf (extractStridedSlice S1x16384x8x16 ![0, 0, 0, 0] (shapeCast _ (extractStridedSlice S1x16384x1024 ![0, 0, 2576] p slices_S1x16384x6232_S1x16384x1024_0_0_2576) shapeCasts_S1x16384x1024_S1x16384x8x128) slices_S1x16384x8x128_S1x16384x8x16_0_0_0_0) (broadcastInDim S1x16384x8x16 ![0, 1, 2, 3] bcast_S1x16384x1x16_S1x16384x8x16_0_1_2_3 (broadcastInDim S1x16384x1x16 ![1, 3] bcast_S16384x16_S1x16384x1x16_1_3 ca))) (mulf (extractStridedSlice S1x16384x8x16 ![0, 0, 0, 16] (shapeCast _ (extractStridedSlice S1x16384x1024 ![0, 0, 2576] p slices_S1x16384x6232_S1x16384x1024_0_0_2576) shapeCasts_S1x16384x1024_S1x16384x8x128) slices_S1x16384x8x128_S1x16384x8x16_0_0_0_16) (broadcastInDim S1x16384x8x16 ![0, 1, 2, 3] bcast_S1x16384x1x16_S1x16384x8x16_0_1_2_3 (broadcastInDim S1x16384x1x16 ![1, 3] bcast_S16384x16_S1x16384x1x16_1_3 sa)))))⟩, ⟨S1x16384x8x16, ((addf (mulf (extractStridedSlice S1x16384x8x16 ![0, 0, 0, 0] (shapeCast _ (extractStridedSlice S1x16384x1024 ![0, 0, 2576] p slices_S1x16384x6232_S1x16384x1024_0_0_2576) shapeCasts_S1x16384x1024_S1x16384x8x128) slices_S1x16384x8x128_S1x16384x8x16_0_0_0_0) (broadcastInDim S1x16384x8x16 ![0, 1, 2, 3] bcast_S1x16384x1x16_S1x16384x8x16_0_1_2_3 (broadcastInDim S1x16384x1x16 ![1, 3] bcast_S16384x16_S1x16384x1x16_1_3 sa))) (mulf (extractStridedSlice S1x16384x8x16 ![0, 0, 0, 16] (shapeCast _ (extractStridedSlice S1x16384x1024 ![0, 0, 2576] p slices_S1x16384x6232_S1x16384x1024_0_0_2576) shapeCasts_S1x16384x1024_S1x16384x8x128) slices_S1x16384x8x128_S1x16384x8x16_0_0_0_16) (broadcastInDim S1x16384x8x16 ![0, 1, 2, 3] bcast_S1x16384x1x16_S1x16384x8x16_0_1_2_3 (broadcastInDim S1x16384x1x16 ![1, 3] bcast_S16384x16_S1x16384x1x16_1_3 ca)))))⟩, ⟨S1x16384x8x96, ((extractStridedSlice S1x16384x8x96 ![0, 0, 0, 32] (shapeCast _ (extractStridedSlice S1x16384x1024 ![0, 0, 2576] p slices_S1x16384x6232_S1x16384x1024_0_0_2576) shapeCasts_S1x16384x1024_S1x16384x8x128) slices_S1x16384x8x128_S1x16384x8x96_0_0_0_32))⟩] concatenates_S1x16384x8x16_S1x16384x8x16_S1x16384x8x96_S1x16384x8x128_d3)) (broadcastInDim S1x16384x8x128 ![] bcast_S_S1x16384x8x128 (constant S_ .f32 0x3DB504F3#32))) shapeCasts_S1x16384x8x128_S1x16384x1024) shapeCasts_S1x16384x1024_S16384x1024) transposes_S16384x1024_S1024x16384_1_0) bitsLt_bf16_f32

/-- The values, transposed. -/
def VTR (p : FVec Ideal S1x16384x6232 .f32) : FVec Ideal S1024x16384 .bf16 :=
  truncf .bf16 (transpose S1024x16384 [1, 0] (shapeCast _ (extractStridedSlice S1x16384x1024 ![0, 0, 4624] p slices_S1x16384x6232_S1x16384x1024_0_0_4624) shapeCasts_S1x16384x1024_S16384x1024) transposes_S16384x1024_S1024x16384_1_0) bitsLt_bf16_f32

/-- The rotated index queries, scaled by their weights, transposed. -/
def QITR (p : FVec Ideal S1x16384x6232 .f32) (ci : FVec Ideal S16384x8 .f32) (si : FVec Ideal S16384x8 .f32) : FVec Ideal S512x16384 .bf16 :=
  truncf .bf16 (transpose S512x16384 [1, 0] (shapeCast _ (shapeCast _ (mulf ((concatenate S1x16384x8x64 3 [⟨S1x16384x8x8, ((subf (mulf (extractStridedSlice S1x16384x8x8 ![0, 0, 0, 0] (shapeCast _ (extractStridedSlice S1x16384x512 ![0, 0, 5648] p slices_S1x16384x6232_S1x16384x512_0_0_5648) shapeCasts_S1x16384x512_S1x16384x8x64) slices_S1x16384x8x64_S1x16384x8x8_0_0_0_0) (broadcastInDim S1x16384x8x8 ![0, 1, 2, 3] bcast_S1x16384x1x8_S1x16384x8x8_0_1_2_3 (broadcastInDim S1x16384x1x8 ![1, 3] bcast_S16384x8_S1x16384x1x8_1_3 ci))) (mulf (extractStridedSlice S1x16384x8x8 ![0, 0, 0, 8] (shapeCast _ (extractStridedSlice S1x16384x512 ![0, 0, 5648] p slices_S1x16384x6232_S1x16384x512_0_0_5648) shapeCasts_S1x16384x512_S1x16384x8x64) slices_S1x16384x8x64_S1x16384x8x8_0_0_0_8) (broadcastInDim S1x16384x8x8 ![0, 1, 2, 3] bcast_S1x16384x1x8_S1x16384x8x8_0_1_2_3 (broadcastInDim S1x16384x1x8 ![1, 3] bcast_S16384x8_S1x16384x1x8_1_3 si)))))⟩, ⟨S1x16384x8x8, ((addf (mulf (extractStridedSlice S1x16384x8x8 ![0, 0, 0, 0] (shapeCast _ (extractStridedSlice S1x16384x512 ![0, 0, 5648] p slices_S1x16384x6232_S1x16384x512_0_0_5648) shapeCasts_S1x16384x512_S1x16384x8x64) slices_S1x16384x8x64_S1x16384x8x8_0_0_0_0) (broadcastInDim S1x16384x8x8 ![0, 1, 2, 3] bcast_S1x16384x1x8_S1x16384x8x8_0_1_2_3 (broadcastInDim S1x16384x1x8 ![1, 3] bcast_S16384x8_S1x16384x1x8_1_3 si))) (mulf (extractStridedSlice S1x16384x8x8 ![0, 0, 0, 8] (shapeCast _ (extractStridedSlice S1x16384x512 ![0, 0, 5648] p slices_S1x16384x6232_S1x16384x512_0_0_5648) shapeCasts_S1x16384x512_S1x16384x8x64) slices_S1x16384x8x64_S1x16384x8x8_0_0_0_8) (broadcastInDim S1x16384x8x8 ![0, 1, 2, 3] bcast_S1x16384x1x8_S1x16384x8x8_0_1_2_3 (broadcastInDim S1x16384x1x8 ![1, 3] bcast_S16384x8_S1x16384x1x8_1_3 ci)))))⟩, ⟨S1x16384x8x48, ((extractStridedSlice S1x16384x8x48 ![0, 0, 0, 16] (shapeCast _ (extractStridedSlice S1x16384x512 ![0, 0, 5648] p slices_S1x16384x6232_S1x16384x512_0_0_5648) shapeCasts_S1x16384x512_S1x16384x8x64) slices_S1x16384x8x64_S1x16384x8x48_0_0_0_16))⟩] concatenates_S1x16384x8x8_S1x16384x8x8_S1x16384x8x48_S1x16384x8x64_d3)) (broadcastInDim S1x16384x8x64 ![0, 1, 2, 3] bcast_S1x16384x8x1_S1x16384x8x64_0_1_2_3 (broadcastInDim S1x16384x8x1 ![0, 1, 2] bcast_S1x16384x8_S1x16384x8x1_0_1_2 (mulf (extractStridedSlice S1x16384x8 ![0, 0, 6224] p slices_S1x16384x6232_S1x16384x8_0_0_6224) (broadcastInDim S1x16384x8 ![] bcast_S_S1x16384x8 (constant S_ .f32 0x3D3504F3#32)))))) shapeCasts_S1x16384x8x64_S1x16384x512) shapeCasts_S1x16384x512_S16384x512) transposes_S16384x512_S512x16384_1_0) bitsLt_bf16_f32

/-- The bounds of a weighted rectified score, from the sign of the weight. -/
def BNDR (p : FVec Ideal S1x16384x6232 .f32) : FVec Ideal S16x16384 .f32 :=
  transpose S16x16384 [1, 0] (shapeCast _ (concatenate S1x16384x16 2 [⟨S1x16384x8, (select (cmpf .ogt (mulf (extractStridedSlice S1x16384x8 ![0, 0, 6224] p slices_S1x16384x6232_S1x16384x8_0_0_6224) (broadcastInDim S1x16384x8 ![] bcast_S_S1x16384x8 (constant S_ .f32 0x3D3504F3#32))) (broadcastInDim S1x16384x8 ![] bcast_S_S1x16384x8 (constant S_ .f32 0x00000000#32))) (broadcastInDim S1x16384x8 ![] bcast_S_S1x16384x8 (constant S_ .f32 0x00000000#32)) (broadcastInDim S1x16384x8 ![] bcast_S_S1x16384x8 (constant S_ .f32 0xFF800000#32)))⟩, ⟨S1x16384x8, (select (cmpf .ogt (mulf (extractStridedSlice S1x16384x8 ![0, 0, 6224] p slices_S1x16384x6232_S1x16384x8_0_0_6224) (broadcastInDim S1x16384x8 ![] bcast_S_S1x16384x8 (constant S_ .f32 0x3D3504F3#32))) (broadcastInDim S1x16384x8 ![] bcast_S_S1x16384x8 (constant S_ .f32 0x00000000#32))) (broadcastInDim S1x16384x8 ![] bcast_S_S1x16384x8 (constant S_ .f32 0x7F800000#32)) (broadcastInDim S1x16384x8 ![] bcast_S_S1x16384x8 (constant S_ .f32 0x00000000#32)))⟩] concatenates_S1x16384x8_S1x16384x8_S1x16384x16_d2) shapeCasts_S1x16384x16_S16384x16) transposes_S16384x16_S16x16384_1_0

/-- The step sizes, transposed. -/
def DTTR (p : FVec Ideal S1x16384x6232 .f32) : FVec Ideal S16x16384 .f32 :=
  transpose S16x16384 [1, 0] (shapeCast _ (extractStridedSlice S1x16384x16 ![0, 0, 2560] p slices_S1x16384x6232_S1x16384x16_0_0_2560) shapeCasts_S1x16384x16_S16384x16) transposes_S16384x16_S16x16384_1_0

/-- The projection, one entry. -/
theorem proj_at (h : FVec Ideal S16384x1024 .f32) (g : FVec Ideal S1024 .f32) (w : FVec Ideal S1024x6232 .f32) (r : Fin 16384) (c : Fin 6232) :
    PROJ h g w (ix3 0 r c) = lin (fun j => h (ix2 r j)) (fun j => g (ix1 j)) (fun j => w (ix2 j c)) := by
  pointwise [PROJ, lin, nrm]

variable (p : FVec Ideal S1x16384x6232 .f32) (ca sa : FVec Ideal S16384x16 .f32) (ci si : FVec Ideal S16384x8 .f32)

theorem zr_at (r : Fin 16384) (j : Fin 1024) : ZR p (ix2 r j) = p (ix3 0 r (⟨j.val, by omega⟩ : Fin 6232)) := by
  pointwise [ZR]

theorem xbcr_at (r : Fin 16384) (j : Fin 1536) : XBCR p (ix2 r j) = p (ix3 0 r (⟨1024 + j.val, by omega⟩ : Fin 6232)) := by
  pointwise [XBCR]

theorem smallr_at (r : Fin 16384) (j : Fin 128) : SMALLR p (ix2 r j)
    = if h : j.val < 64 then p (ix3 0 r (⟨6160 + j.val, by omega⟩ : Fin 6232))
      else if h' : j.val - 64 < 16 then p (ix3 0 r (⟨2560 + (j.val - 64), by omega⟩ : Fin 6232)) else 0 := by
  pointwise [SMALLR]

theorem kr_at (r : Fin 16384) (j : Fin 1024) : KR p ca sa (ix2 r j)
    = ropeA (fun l => p (ix3 0 r (⟨3600 + (j.val / 128 * 128 + l.val), by omega⟩ : Fin 6232))) (fun k => ca (ix2 r k)) (fun k => sa (ix2 r k))
        ⟨j.val % 128, by omega⟩ := by
  pointwise [KR, ropeA]
  simp only [Nat.div_add_mod']

theorem kir_at (r : Fin 16384) (j : Fin 64) : KIR p ci si (ix2 r j)
    = ropeI (fun l => p (ix3 0 r (⟨6160 + l.val, by omega⟩ : Fin 6232))) (fun k => ci (ix2 r k)) (fun k => si (ix2 r k)) j := by
  pointwise [KIR, ropeI]

theorem qtr_at (j : Fin 1024) (r : Fin 16384) : QTR p ca sa (ix2 j r)
    = ropeA (fun l => p (ix3 0 r (⟨2576 + (j.val / 128 * 128 + l.val), by omega⟩ : Fin 6232))) (fun k => ca (ix2 r k)) (fun k => sa (ix2 r k))
        ⟨j.val % 128, by omega⟩ * Ideal.ofBits .f32 0x3DB504F3#32 := by
  pointwise [QTR, ropeA]
  simp only [Nat.div_add_mod']

theorem vtr_at (j : Fin 1024) (r : Fin 16384) : VTR p (ix2 j r) = p (ix3 0 r (⟨4624 + j.val, by omega⟩ : Fin 6232)) := by
  pointwise [VTR]

theorem qitr_at (j : Fin 512) (r : Fin 16384) : QITR p ci si (ix2 j r)
    = ropeI (fun l => p (ix3 0 r (⟨5648 + (j.val / 64 * 64 + l.val), by omega⟩ : Fin 6232))) (fun k => ci (ix2 r k)) (fun k => si (ix2 r k))
        ⟨j.val % 64, by omega⟩ * (p (ix3 0 r (⟨6224 + j.val / 64, by omega⟩ : Fin 6232)) * Ideal.ofBits .f32 0x3D3504F3#32) := by
  pointwise [QITR, ropeI]
  simp only [Nat.div_add_mod']

theorem dttr_at (j : Fin 16) (r : Fin 16384) : DTTR p (ix2 j r) = p (ix3 0 r (⟨2560 + j.val, by omega⟩ : Fin 6232)) := by
  pointwise [DTTR]

theorem bndr_at (j : Fin 16) (r : Fin 16384) : BNDR p (ix2 j r)
    = if h : j.val < 8 then
        (if 0 < p (ix3 0 r (⟨6224 + j.val, by omega⟩ : Fin 6232)) * Ideal.ofBits .f32 0x3D3504F3#32 then 0 else Ideal.ofBits .f32 0xFF800000#32)
      else (if 0 < p (ix3 0 r (⟨6224 + (j.val - 8), by omega⟩ : Fin 6232)) * Ideal.ofBits .f32 0x3D3504F3#32 then Ideal.ofBits .f32 0x7F800000#32 else 0) := by
  pointwise [BNDR]

end Cert.Reference5Ideal.RefValue

end
-- ==== Proof.EvenInRefRun.lean ====
/- The input projection of the even layers: the reference's run, its ten results under their names. -/
module

public import proofs.«01_k».proof.Proof.EvenInRef
public import proofs.«01_k».proof.Proof.Gen.Reference5Ideal.Run

@[expose] public section

set_option maxRecDepth 16384

noncomputable section

open Idealize.ShloMosaic Idealize.ShloMosaic.TcCoe Idealize.SL.Sem

namespace Cert.Reference5Ideal.RefValue

open Cert.Reference5Ideal Cert.Reference5Ideal.Value

/-- The projected rows of the arguments. -/
abbrev PM (m : (ℓ : Loc nD τ sig) → Buf (Elt Ideal) ℓ) (c : Dev nD) : FVec Ideal S1x16384x6232 .f32 :=
  PROJ (m ((c.tc : Thread nD τ).loc main_arg0)) (m ((c.tc : Thread nD τ).loc main_arg1)) (m ((c.tc : Thread nD τ).loc main_arg2))

/-- The reference ends with its ten results in place. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v145) = ZR (PM m c)
      ∧ r.2.mem ((c.tc : Thread nD τ).loc main_v146) = XBCR (PM m c)
      ∧ r.2.mem ((c.tc : Thread nD τ).loc main_v147) = SMALLR (PM m c)
      ∧ r.2.mem ((c.tc : Thread nD τ).loc main_v150) = KR (PM m c) COSA SINA
      ∧ r.2.mem ((c.tc : Thread nD τ).loc main_v152) = KIR (PM m c) COSI SINI
      ∧ r.2.mem ((c.tc : Thread nD τ).loc main_v155) = QTR (PM m c) COSA SINA
      ∧ r.2.mem ((c.tc : Thread nD τ).loc main_v158) = VTR (PM m c)
      ∧ r.2.mem ((c.tc : Thread nD τ).loc main_v161) = QITR (PM m c) COSI SINI
      ∧ r.2.mem ((c.tc : Thread nD τ).loc main_v163) = BNDR (PM m c)
      ∧ r.2.mem ((c.tc : Thread nD τ).loc main_v165) = DTTR (PM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1, (h c).2.1, (h c).2.2.1, (h c).2.2.2.1, (h c).2.2.2.2.1, (h c).2.2.2.2.2.1,
    (h c).2.2.2.2.2.2.1, (h c).2.2.2.2.2.2.2.1, (h c).2.2.2.2.2.2.2.2.1, (h c).2.2.2.2.2.2.2.2.2⟩) (Value.run m ρ)

end Cert.Reference5Ideal.RefValue

end
-- ==== Proof.EvenInKernel.lean ====
/- The input projection's kernel: what its body leaves in each of the ten blocks, as functions of the fourteen blocks it
   reads, entry by entry. -/
module

public import proofs.«01_k».proof.Proof.EvenInFrameIdeal
public import proofs.«01_k».proof.Proof.OddRow
public import proofs.«01_k».proof.Proof.EvenInRow
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.RefValue

open Cert.Kernel5Ideal Cert.Kernel5Ideal.Gen Cert.OddRow Cert.EvenInRow

variable (x0 : FVec Ideal S512x1024 .f32) (x1 : FVec Ideal S1x1024 .f32) (x2 : FVec Ideal S1024x3712 .bf16)
  (x3 : FVec Ideal S2592x1024 .bf16) (x4 x5 x6 x7 x8 x9 : FVec Ideal S512x128 .f32) (x10 x11 : FVec Ideal S16x512 .f32)
  (x12 x13 : FVec Ideal S8x512 .f32)

/-- The projection of row `r` against column `c` of the first weight. -/
def rowP (r : Fin 512) (c : Fin 3712) : EReal := lin (fun j => x0 (ix2 r j)) (fun j => x1 (ix2 0 j)) (fun j => x2 (ix2 j c))

/-- The projection of row `r` against row `c` of the second weight, which is stored transposed. -/
def colP (c : Fin 2592) (r : Fin 512) : EReal := lin (fun j => x0 (ix2 r j)) (fun j => x1 (ix2 0 j)) (fun j => x3 (ix2 c j))

/-- The normed rows. -/
theorem nrm_at (r : Fin 512) (k : Fin 1024) :
    k0_pay2 (F := Ideal) (View.ld x0 r0_0) (View.ld x1 r0_1) (ix2 r k) = nrm (fun j => x0 (ix2 r j)) (fun j => x1 (ix2 0 j)) k := by
  pointwise [k0_pay2, k0_pay1, nrm]

/-- The normed rows, of the blocks themselves. -/
theorem nrm_at' (r : Fin 512) (k : Fin 1024) :
    k0_pay2 (F := Ideal) x0 x1 (ix2 r k) = nrm (fun j => x0 (ix2 r j)) (fun j => x1 (ix2 0 j)) k := by
  pointwise [k0_pay2, k0_pay1, nrm]

/-- The normed rows, transposed. -/
theorem nrmt_at (k : Fin 1024) (r : Fin 512) :
    k0_pay3 (F := Ideal) (View.ld x0 r0_0) (View.ld x1 r0_1) (ix2 k r) = nrm (fun j => x0 (ix2 r j)) (fun j => x1 (ix2 0 j)) k := by
  pointwise [k0_pay3, k0_pay1, nrm]

/-- The gate. -/
theorem gate_at (r : Fin 512) (j : Fin 1024) :
    k0_pay4 (F := Ideal) x0 x1 (View.ld x2 r0_2) (ix2 r j) = rowP x0 x1 x2 r ⟨j.val, by omega⟩ := by
  pointwise [k0_pay4, rowP, lin]
  simp only [nrm_at']

/-- The gate's block. -/
theorem out14_at (r : Fin 512) (j : Fin 1024) :
    out0_14 (F := Ideal) x0 x1 x2 x3 x4 x5 x6 x7 x8 x9 x10 x11 x12 x13 (ix2 r j) = rowP x0 x1 x2 r ⟨j.val, by omega⟩ := by
  unfold out0_14
  frame_out
  exact gate_at x0 x1 x2 r j

/-- The recurrence's input. -/
theorem input_at (r : Fin 512) (j : Fin 1536) :
    k0_pay5 (F := Ideal) x0 x1 (View.ld x2 r0_3) (ix2 r j) = rowP x0 x1 x2 r ⟨1024 + j.val, by omega⟩ := by
  pointwise [k0_pay5, rowP, lin]
  simp only [nrm_at']

/-- The block of the recurrence's input. -/
theorem out15_at (r : Fin 512) (j : Fin 1536) :
    out0_15 (F := Ideal) x0 x1 x2 x3 x4 x5 x6 x7 x8 x9 x10 x11 x12 x13 (ix2 r j) = rowP x0 x1 x2 r ⟨1024 + j.val, by omega⟩ := by
  unfold out0_15
  frame_out
  exact input_at x0 x1 x2 r j

/-- The block of index keys, step sizes and zeros. -/
theorem out16_at (r : Fin 512) (j : Fin 128) :
    out0_16 (F := Ideal) x0 x1 x2 x3 x4 x5 x6 x7 x8 x9 x10 x11 x12 x13 (ix2 r j) = rowP x0 x1 x2 r ⟨3584 + j.val, by omega⟩ := by
  unfold out0_16
  frame_out
  pointwise [k0_pay18, k0_pay65, rowP, lin]
  simp only [nrm_at]

/-- The keys before their rotation. -/
theorem key_at (r : Fin 512) (j : Fin 1024) :
    k0_pay6 (F := Ideal) (View.ld x0 r0_0) (View.ld x1 r0_1) (View.ld x2 r0_5) (ix2 r j) = rowP x0 x1 x2 r ⟨2560 + j.val, by omega⟩ := by
  pointwise [k0_pay6, rowP, lin]
  simp only [nrm_at]

set_option maxHeartbeats 1600000 in
/-- The block of rotated keys, each head rotated in its own 128 lanes. -/
theorem out17_at (r : Fin 512) (j : Fin 1024) :
    out0_17 (F := Ideal) x0 x1 x2 x3 x4 x5 x6 x7 x8 x9 x10 x11 x12 x13 (ix2 r j)
      = ropeL 112 16 (fun l => rowP x0 x1 x2 r ⟨2560 + (j.val / 128 * 128 + l.val), by omega⟩)
          (fun l => x4 (ix2 r l)) (fun l => x5 (ix2 r l)) (fun l => x6 (ix2 r l)) ⟨j.val % 128, by omega⟩ := by
  have hk : ∀ l : Fin 128, rowP x0 x1 x2 r ⟨2560 + (j.val / 128 * 128 + l.val), by omega⟩
      = k0_pay6 (F := Ideal) (View.ld x0 r0_0) (View.ld x1 r0_1) (View.ld x2 r0_5) (ix2 r ⟨j.val / 128 * 128 + l.val, by omega⟩) :=
    fun l => (key_at x0 x1 x2 r ⟨j.val / 128 * 128 + l.val, by omega⟩).symm
  simp only [hk]
  unfold out0_17
  simp only [k0_pay67, k0_pay68, k0_pay69, k0_pay70]
  generalize k0_pay6 (F := Ideal) (View.ld x0 r0_0) (View.ld x1 r0_1) (View.ld x2 r0_5) = kk
  canon_tiles y h
  all_goals
    open_payloads
    change r.val = _ at h0
    change j.val = _ at h1
    pointwise [ropeL, k0_pay7, k0_pay8, k0_pay9]
    blk_point []
  all_goals omega

/-- The block of rotated index keys. -/
theorem out18_at (r : Fin 512) (j : Fin 64) :
    out0_18 (F := Ideal) x0 x1 x2 x3 x4 x5 x6 x7 x8 x9 x10 x11 x12 x13 (ix2 r j)
      = ropeL 120 8 (fun l => rowP x0 x1 x2 r ⟨3584 + l.val, by omega⟩)
          (fun l => x7 (ix2 r l)) (fun l => x8 (ix2 r l)) (fun l => x9 (ix2 r l)) ⟨j.val, by omega⟩ := by
  unfold out0_18
  frame_out
  pointwise [k0_pay19, k0_pay18, k0_pay65, ropeL, rowP, lin]
  simp only [nrm_at]

/-- The queries before their rotation, transposed. -/
theorem query_at (j : Fin 1024) (r : Fin 512) :
    k0_pay20 (F := Ideal) (k0_pay3 (View.ld x0 r0_0) (View.ld x1 r0_1)) (View.ld x3 r0_17) (ix2 j r) = colP x0 x1 x3 ⟨j.val, by omega⟩ r := by
  pointwise [k0_pay20, colP, lin]
  simp only [nrmt_at]
  exact Finset.sum_congr rfl fun k _ => mul_comm _ _

set_option maxHeartbeats 3200000 in
/-- The block of rotated and scaled queries, transposed. -/
theorem out19_at (j : Fin 1024) (r : Fin 512) :
    out0_19 (F := Ideal) x0 x1 x2 x3 x4 x5 x6 x7 x8 x9 x10 x11 x12 x13 (ix2 j r)
      = ropeA (fun l => colP x0 x1 x3 ⟨j.val / 128 * 128 + l.val, by omega⟩ r)
          (fun i => x10 (ix2 i r)) (fun i => x11 (ix2 i r)) ⟨j.val % 128, by omega⟩ * Ideal.ofBits FTy.f32 0x3DB504F3#32 := by
  have hq : ∀ l : Fin 128, colP x0 x1 x3 ⟨j.val / 128 * 128 + l.val, by omega⟩ r
      = k0_pay20 (F := Ideal) (k0_pay3 (View.ld x0 r0_0) (View.ld x1 r0_1)) (View.ld x3 r0_17)
          (ix2 ⟨j.val / 128 * 128 + l.val, by omega⟩ r) :=
    fun l => (query_at x0 x1 x3 ⟨j.val / 128 * 128 + l.val, by omega⟩ r).symm
  simp only [hq]
  unfold out0_19
  simp only [k0_pay71, k0_pay72, k0_pay73, k0_pay66, k0_pay23, k0_pay24, k0_pay25, k0_pay26, k0_pay27]
  generalize k0_pay20 (F := Ideal) (k0_pay3 (View.ld x0 r0_0) (View.ld x1 r0_1)) (View.ld x3 r0_17) = q
  canon_tiles y h
  all_goals
    open_payloads
    change j.val = _ at h0
    change r.val = _ at h1
    pointwise [ropeA, k0_pay21, k0_pay22, k0_pay31, k0_pay32, k0_pay33, k0_pay34, k0_pay35, k0_pay36, k0_pay40]
    blk_point []
  all_goals omega

/-- The block of values, transposed. -/
theorem out20_at (j : Fin 1024) (r : Fin 512) :
    out0_20 (F := Ideal) x0 x1 x2 x3 x4 x5 x6 x7 x8 x9 x10 x11 x12 x13 (ix2 j r) = colP x0 x1 x3 ⟨1024 + j.val, by omega⟩ r := by
  unfold out0_20
  frame_out
  pointwise [k0_pay43, k0_pay66, colP, lin]
  simp only [nrmt_at]
  exact Finset.sum_congr rfl fun k _ => mul_comm _ _

/-- The last 32 rows of the transposed projection. -/
theorem tail_at (j : Fin 32) (r : Fin 512) :
    k0_pay44 (F := Ideal) (k0_pay3 (View.ld x0 r0_0) (View.ld x1 r0_1)) (View.ld x3 r0_29) (ix2 j r) = colP x0 x1 x3 ⟨2560 + j.val, by omega⟩ r := by
  pointwise [k0_pay44, colP, lin]
  simp only [nrmt_at]
  exact Finset.sum_congr rfl fun k _ => mul_comm _ _

/-- The index queries before their rotation, transposed. -/
theorem index_at (j r : Fin 512) :
    k0_pay52 (F := Ideal) (k0_pay3 (View.ld x0 r0_0) (View.ld x1 r0_1)) (View.ld x3 r0_32) (ix2 j r) = colP x0 x1 x3 ⟨2048 + j.val, by omega⟩ r := by
  pointwise [k0_pay52, colP, lin]
  simp only [nrmt_at]
  exact Finset.sum_congr rfl fun k _ => mul_comm _ _

/-- The index heads' weights, transposed and scaled. -/
theorem weight_at (j : Fin 8) (r : Fin 512) :
    k0_pay45 (F := Ideal) (k0_pay3 (View.ld x0 r0_0) (View.ld x1 r0_1)) (View.ld x3 r0_29) (ix2 j r)
      = colP x0 x1 x3 ⟨2560 + j.val, by omega⟩ r * Ideal.ofBits FTy.f32 0x3D3504F3#32 := by
  pointwise [k0_pay45]
  simp only [tail_at]

set_option maxHeartbeats 3200000 in
/-- The block of rotated and weighted index queries, transposed. -/
theorem out21_at (j r : Fin 512) :
    out0_21 (F := Ideal) x0 x1 x2 x3 x4 x5 x6 x7 x8 x9 x10 x11 x12 x13 (ix2 j r)
      = ropeI (fun l => colP x0 x1 x3 ⟨2048 + (j.val / 64 * 64 + l.val), by omega⟩ r)
          (fun i => x12 (ix2 i r)) (fun i => x13 (ix2 i r)) ⟨j.val % 64, by omega⟩
        * (colP x0 x1 x3 ⟨2560 + j.val / 64, by omega⟩ r * Ideal.ofBits FTy.f32 0x3D3504F3#32) := by
  have hq : ∀ l : Fin 64, colP x0 x1 x3 ⟨2048 + (j.val / 64 * 64 + l.val), by omega⟩ r
      = k0_pay52 (F := Ideal) (k0_pay3 (View.ld x0 r0_0) (View.ld x1 r0_1)) (View.ld x3 r0_32)
          (ix2 ⟨j.val / 64 * 64 + l.val, by omega⟩ r) :=
    fun l => (index_at x0 x1 x3 ⟨j.val / 64 * 64 + l.val, by omega⟩ r).symm
  have hw := (weight_at x0 x1 x3 ⟨j.val / 64, by omega⟩ r).symm
  simp only [hq]
  rw [hw]
  unfold out0_21
  simp only [k0_pay74, k0_pay76, k0_pay77, k0_pay78, k0_pay66, k0_pay55, k0_pay56]
  generalize k0_pay52 (F := Ideal) (k0_pay3 (View.ld x0 r0_0) (View.ld x1 r0_1)) (View.ld x3 r0_32) = q
  generalize k0_pay45 (F := Ideal) (k0_pay3 (View.ld x0 r0_0) (View.ld x1 r0_1)) (View.ld x3 r0_29) = w
  canon_tiles y h
  all_goals
    open_payloads
    change j.val = _ at h0
    change r.val = _ at h1
    pointwise [ropeI, k0_pay53, k0_pay54, k0_pay57]
    blk_point []
  all_goals omega

/-- The block of bounds: below, zero where the head's weight is positive and minus infinity elsewhere; above, infinity
    where it is positive and zero elsewhere. -/
theorem out22_at (j : Fin 16) (r : Fin 512) :
    out0_22 (F := Ideal) x0 x1 x2 x3 x4 x5 x6 x7 x8 x9 x10 x11 x12 x13 (ix2 j r)
      = if h : j.val < 8 then
          (if 0 < colP x0 x1 x3 ⟨2560 + j.val, by omega⟩ r * Ideal.ofBits FTy.f32 0x3D3504F3#32
            then 0 else Ideal.ofBits FTy.f32 0xFF800000#32)
        else
          (if 0 < colP x0 x1 x3 ⟨2560 + (j.val - 8), by omega⟩ r * Ideal.ofBits FTy.f32 0x3D3504F3#32
            then Ideal.ofBits FTy.f32 0x7F800000#32 else 0) := by
  have hw : ∀ (i : ℕ) (hi : i < 8), colP x0 x1 x3 ⟨2560 + i, by omega⟩ r * Ideal.ofBits FTy.f32 0x3D3504F3#32
      = k0_pay45 (F := Ideal) (k0_pay3 (View.ld x0 r0_0) (View.ld x1 r0_1)) (View.ld x3 r0_29) (ix2 ⟨i, hi⟩ r) :=
    fun i hi => (weight_at x0 x1 x3 ⟨i, hi⟩ r).symm
  unfold out0_22
  simp only [k0_pay75, k0_pay66, k0_pay47]
  generalize k0_pay45 (F := Ideal) (k0_pay3 (View.ld x0 r0_0) (View.ld x1 r0_1)) (View.ld x3 r0_29) = w at hw ⊢
  canon_tiles y h
  all_goals
    change j.val = _ at h0
    change r.val = _ at h1
    open_payloads
  · rw [dif_neg (by omega), hw _ (by omega)]
    pointwise []
    blk_point []
    all_goals omega
  · rw [dif_pos (by omega), hw _ (by omega)]
    pointwise [k0_pay48, k0_pay49]
    blk_point []
    all_goals omega

/-- The block of step sizes, transposed. -/
theorem out23_at (j : Fin 16) (r : Fin 512) :
    out0_23 (F := Ideal) x0 x1 x2 x3 x4 x5 x6 x7 x8 x9 x10 x11 x12 x13 (ix2 j r) = colP x0 x1 x3 ⟨2576 + j.val, by omega⟩ r := by
  unfold out0_23
  frame_out
  pointwise [k0_pay46, k0_pay66]
  refine (tail_at x0 x1 x3 ⟨16 + j.val, by omega⟩ r).trans ?_
  congr 1
  exact Fin.ext (by show 2560 + (16 + j.val) = 2576 + j.val; omega)

end Cert.Kernel5Ideal.RefValue

end
-- ==== Proof.EvenInHost.lean ====
/- The input projection's kernel: what the host lines before the call leave in the arrays it reads, and its blocks at a grid
   point as entries of the arguments and of the rotation tables. -/
module

public import proofs.«01_k».proof.Proof.EvenInFrameIdeal
public import proofs.«01_k».proof.Proof.EvenInRef
public import Idealize.ShloMosaic.Lib.Pipeline.ValueKit
public import Idealize.ShloMosaic.Lib.Pointwise
public import Idealize.ShloMosaic.Lib.Claim
public import Idealize.ShloMosaic.Lib.StableHlo.RunRead
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.Kernel5Ideal.RefValue

open Cert.Kernel5Ideal Cert.Kernel5Ideal.Gen Cert.Reference5Ideal.RefValue

variable (m : (ℓ : Loc nD τ sig) → Buf (Elt Ideal) ℓ)

/-- The block of every window at every grid point: rows or columns move with the point, the weights stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![0, t.val]
    ∧ win0_11.index t = ![0, t.val] ∧ win0_12.index t = ![0, t.val] ∧ win0_13.index t = ![0, t.val]
    ∧ win0_14.index t = ![t.val, 0] ∧ win0_15.index t = ![t.val, 0] ∧ win0_16.index t = ![t.val, 0] ∧ win0_17.index t = ![t.val, 0]
    ∧ win0_18.index t = ![t.val, 0] ∧ win0_19.index t = ![0, t.val] ∧ win0_20.index t = ![0, t.val] ∧ win0_21.index t = ![0, t.val]
    ∧ win0_22.index t = ![0, t.val] ∧ win0_23.index t = ![0, t.val] :=
  (by decide +kernel : ∀ t : Fin grid0.N, _)

/-- The first weight, one entry: the columns of the gate, the recurrence's input, the keys, the index key and the step
    sizes, then zeros. -/
theorem wn_at (c : Dev nD) (i : Fin 1024) (j : Fin 3712) : V m c main_v11 (ix2 i j)
    = if h : j.val < 1024 then m ((c : Thread nD τ).loc main_arg2) (ix2 i ⟨j.val, by omega⟩)
      else if h : j.val - 1024 < 1536 then m ((c : Thread nD τ).loc main_arg2) (ix2 i ⟨1024 + (j.val - 1024), by omega⟩)
      else if h : j.val - 1024 - 1536 < 1024 then m ((c : Thread nD τ).loc main_arg2) (ix2 i ⟨3600 + (j.val - 1024 - 1536), by omega⟩)
      else if h : j.val - 1024 - 1536 - 1024 < 64 then m ((c : Thread nD τ).loc main_arg2) (ix2 i ⟨6160 + (j.val - 1024 - 1536 - 1024), by omega⟩)
      else if h : j.val - 1024 - 1536 - 1024 - 64 < 16 then m ((c : Thread nD τ).loc main_arg2) (ix2 i ⟨2560 + (j.val - 1024 - 1536 - 1024 - 64), by omega⟩)
      else (0 : EReal) := by
  unfold_abbrev_sides
  after_reads_at
  after_reads_at

/-- The second weight, one entry: the rows of the queries, the values, the index queries and their weights, then zeros, then
    the step sizes. -/
theorem wt_at (c : Dev nD) (i : Fin 1024) (j : Fin 2592) : V m c main_v15 (ix2 j i)
    = if h : j.val < 1024 then m ((c : Thread nD τ).loc main_arg2) (ix2 i ⟨2576 + j.val, by omega⟩)
      else if h : j.val - 1024 < 1024 then m ((c : Thread nD τ).loc main_arg2) (ix2 i ⟨4624 + (j.val - 1024), by omega⟩)
      else if h : j.val - 1024 - 1024 < 512 then m ((c : Thread nD τ).loc main_arg2) (ix2 i ⟨5648 + (j.val - 1024 - 1024), by omega⟩)
      else if h : j.val - 1024 - 1024 - 512 < 8 then m ((c : Thread nD τ).loc main_arg2) (ix2 i ⟨6224 + (j.val - 1024 - 1024 - 512), by omega⟩)
      else if h : j.val - 1024 - 1024 - 512 - 8 < 8 then (0 : EReal)
      else m ((c : Thread nD τ).loc main_arg2) (ix2 i ⟨2560 + (j.val - 1024 - 1024 - 512 - 8 - 8), by omega⟩) := by
  unfold_abbrev_sides
  after_reads_at
  after_reads_at

/-- The first weight's columns of the gate. -/
theorem wn_z (c : Dev nD) (i : Fin 1024) (j : Fin 1024) :
    V m c main_v11 (ix2 i ⟨j.val, by omega⟩) = m ((c : Thread nD τ).loc main_arg2) (ix2 i ⟨j.val, by omega⟩) := by
  rw [wn_at]
  dsimp only
  split_ifs <;> first
    | omega
    | rfl
    | exact congrArg _ (congrArg _ (Fin.ext (by simp only; omega)))

/-- The first weight's columns of the recurrence's input. -/
theorem wn_x (c : Dev nD) (i : Fin 1024) (j : Fin 1536) :
    V m c main_v11 (ix2 i ⟨1024 + j.val, by omega⟩) = m ((c : Thread nD τ).loc main_arg2) (ix2 i ⟨1024 + j.val, by omega⟩) := by
  rw [wn_at]
  dsimp only
  split_ifs <;> first
    | omega
    | rfl
    | exact congrArg _ (congrArg _ (Fin.ext (by simp only; omega)))

/-- The first weight's columns of the keys. -/
theorem wn_k (c : Dev nD) (i : Fin 1024) (j : Fin 1024) :
    V m c main_v11 (ix2 i ⟨2560 + j.val, by omega⟩) = m ((c : Thread nD τ).loc main_arg2) (ix2 i ⟨3600 + j.val, by omega⟩) := by
  rw [wn_at]
  dsimp only
  split_ifs <;> first
    | omega
    | rfl
    | exact congrArg _ (congrArg _ (Fin.ext (by simp only; omega)))

/-- The first weight's columns of the index key. -/
theorem wn_ki (c : Dev nD) (i : Fin 1024) (j : Fin 64) :
    V m c main_v11 (ix2 i ⟨3584 + j.val, by omega⟩) = m ((c : Thread nD τ).loc main_arg2) (ix2 i ⟨6160 + j.val, by omega⟩) := by
  rw [wn_at]
  dsimp only
  split_ifs <;> first
    | omega
    | rfl
    | exact congrArg _ (congrArg _ (Fin.ext (by simp only; omega)))

/-- The first weight's columns of the step sizes. -/
theorem wn_dt (c : Dev nD) (i : Fin 1024) (j : Fin 16) :
    V m c main_v11 (ix2 i ⟨3648 + j.val, by omega⟩) = m ((c : Thread nD τ).loc main_arg2) (ix2 i ⟨2560 + j.val, by omega⟩) := by
  rw [wn_at]
  dsimp only
  split_ifs <;> first
    | omega
    | rfl
    | exact congrArg _ (congrArg _ (Fin.ext (by simp only; omega)))

/-- The first weight's columns of zeros. -/
theorem wn_pad (c : Dev nD) (i : Fin 1024) (j : Fin 48) :
    V m c main_v11 (ix2 i ⟨3664 + j.val, by omega⟩) = (0 : EReal) := by
  rw [wn_at]
  dsimp only
  split_ifs <;> first
    | omega
    | rfl
    | exact congrArg _ (congrArg _ (Fin.ext (by simp only; omega)))

/-- The second weight's rows of the queries. -/
theorem wt_q (c : Dev nD) (i : Fin 1024) (j : Fin 1024) :
    V m c main_v15 (ix2 ⟨j.val, by omega⟩ i) = m ((c : Thread nD τ).loc main_arg2) (ix2 i ⟨2576 + j.val, by omega⟩) := by
  rw [wt_at]
  dsimp only
  split_ifs <;> first
    | omega
    | rfl
    | exact congrArg _ (congrArg _ (Fin.ext (by simp only; omega)))

/-- The second weight's rows of the values. -/
theorem wt_v (c : Dev nD) (i : Fin 1024) (j : Fin 1024) :
    V m c main_v15 (ix2 ⟨1024 + j.val, by omega⟩ i) = m ((c : Thread nD τ).loc main_arg2) (ix2 i ⟨4624 + j.val, by omega⟩) := by
  rw [wt_at]
  dsimp only
  split_ifs <;> first
    | omega
    | rfl
    | exact congrArg _ (congrArg _ (Fin.ext (by simp only; omega)))

/-- The second weight's rows of the index queries. -/
theorem wt_qi (c : Dev nD) (i : Fin 1024) (j : Fin 512) :
    V m c main_v15 (ix2 ⟨2048 + j.val, by omega⟩ i) = m ((c : Thread nD τ).loc main_arg2) (ix2 i ⟨5648 + j.val, by omega⟩) := by
  rw [wt_at]
  dsimp only
  split_ifs <;> first
    | omega
    | rfl
    | exact congrArg _ (congrArg _ (Fin.ext (by simp only; omega)))

/-- The second weight's rows of the index queries' weights. -/
theorem wt_wi (c : Dev nD) (i : Fin 1024) (j : Fin 8) :
    V m c main_v15 (ix2 ⟨2560 + j.val, by omega⟩ i) = m ((c : Thread nD τ).loc main_arg2) (ix2 i ⟨6224 + j.val, by omega⟩) := by
  rw [wt_at]
  dsimp only
  split_ifs <;> first
    | omega
    | rfl
    | exact congrArg _ (congrArg _ (Fin.ext (by simp only; omega)))

/-- The second weight's rows of the step sizes. -/
theorem wt_dt (c : Dev nD) (i : Fin 1024) (j : Fin 16) :
    V m c main_v15 (ix2 ⟨2576 + j.val, by omega⟩ i) = m ((c : Thread nD τ).loc main_arg2) (ix2 i ⟨2560 + j.val, by omega⟩) := by
  rw [wt_at]
  dsimp only
  split_ifs <;> first
    | omega
    | rfl
    | exact congrArg _ (congrArg _ (Fin.ext (by simp only; omega)))

/-- The rows of a grid point's block. -/
theorem iblk_h (c : Dev nD) (t : Fin cfg0.N) (r : Fin 512) (j : Fin 1024) : iblk m c 0 t (ix2 r j)
    = m ((c : Thread nD τ).loc main_arg0) (ix2 (⟨512 * t.val + r, by have : t.val < 32 := t.isLt; omega⟩ : Fin 16384) j) := by
  blk_point [iblk, V, idx t]

/-- The norm's gain as one row. -/
theorem gain_at (c : Dev nD) (j : Fin 1024) : V m c main_v16 (ix2 0 j) = m ((c : Thread nD τ).loc main_arg1) (ix1 j) := by
  unfold_abbrev_sides
  after_reads_at

/-- The norm's gain stays. -/
theorem iblk_g (c : Dev nD) (t : Fin cfg0.N) (j : Fin 1024) :
    iblk m c 1 t (ix2 0 j) = m ((c : Thread nD τ).loc main_arg1) (ix1 j) :=
  (congrArg (V m c main_v16) (show ((cfg0.win 1).blk t).view.emb (ix2 0 j) = ix2 0 j by blk_point [idx t])).trans (gain_at m c j)

/-- The first weight stays. -/
theorem iblk_wn (c : Dev nD) (t : Fin cfg0.N) (i : Fin 1024) (j : Fin 3712) : iblk m c 2 t (ix2 i j) = V m c main_v11 (ix2 i j) :=
  congrArg (V m c main_v11) (show ((cfg0.win 2).blk t).view.emb (ix2 i j) = ix2 i j by blk_point [idx t])

/-- The second weight stays. -/
theorem iblk_wt (c : Dev nD) (t : Fin cfg0.N) (j : Fin 2592) (i : Fin 1024) : iblk m c 3 t (ix2 j i) = V m c main_v15 (ix2 j i) :=
  congrArg (V m c main_v15) (show ((cfg0.win 3).blk t).view.emb (ix2 j i) = ix2 j i by blk_point [idx t])

/-- The attention heads' lane table of cosines and ones. -/
theorem lane_4 (c : Dev nD) (r : Fin 16384) (l : Fin 128) : V m c main_v56 (ix2 r l)
    = if h : l.val < 16 then COSA (ix2 r ⟨l.val, h⟩) else if h' : l.val - 16 < 16 then COSA (ix2 r ⟨l.val - 16, h'⟩) else 1 := by
  unfold COSA ANGA
  unfold_abbrev_sides
  after_reads_at
  after_reads_at

/-- The attention heads' lane table of negated sines. -/
theorem lane_5 (c : Dev nD) (r : Fin 16384) (l : Fin 128) : V m c main_v59 (ix2 r l)
    = if h : l.val < 16 then -SINA (ix2 r ⟨l.val, h⟩) else 0 := by
  unfold SINA ANGA
  unfold_abbrev_sides
  after_reads_at

/-- The attention heads' lane table of sines. -/
theorem lane_6 (c : Dev nD) (r : Fin 16384) (l : Fin 128) : V m c main_v62 (ix2 r l)
    = if h : l.val < 16 then 0 else if h' : l.val - 16 < 16 then SINA (ix2 r ⟨l.val - 16, h'⟩) else 0 := by
  unfold SINA ANGA
  unfold_abbrev_sides
  after_reads_at
  after_reads_at

/-- The index heads' lane table of cosines and ones. -/
theorem lane_7 (c : Dev nD) (r : Fin 16384) (l : Fin 128) : V m c main_v64 (ix2 r l)
    = if h : l.val < 8 then COSI (ix2 r ⟨l.val, h⟩) else if h' : l.val - 8 < 8 then COSI (ix2 r ⟨l.val - 8, h'⟩) else 1 := by
  unfold COSI ANGI
  unfold_abbrev_sides
  after_reads_at
  after_reads_at

/-- The index heads' lane table of negated sines. -/
theorem lane_8 (c : Dev nD) (r : Fin 16384) (l : Fin 128) : V m c main_v67 (ix2 r l)
    = if h : l.val < 8 then -SINI (ix2 r ⟨l.val, h⟩) else 0 := by
  unfold SINI ANGI
  unfold_abbrev_sides
  after_reads_at

/-- The index heads' lane table of sines. -/
theorem lane_9 (c : Dev nD) (r : Fin 16384) (l : Fin 128) : V m c main_v70 (ix2 r l)
    = if h : l.val < 8 then 0 else if h' : l.val - 8 < 8 then SINI (ix2 r ⟨l.val - 8, h'⟩) else 0 := by
  unfold SINI ANGI
  unfold_abbrev_sides
  after_reads_at
  after_reads_at

/-- The table of window 10 is transposed. -/
theorem row_10 (c : Dev nD) (i : Fin 16) (r : Fin 16384) : V m c main_v71 (ix2 i r) = COSA (ix2 r i) := by
  unfold COSA ANGA
  unfold_abbrev_sides
  after_reads_at

/-- The table of window 11 is transposed. -/
theorem row_11 (c : Dev nD) (i : Fin 16) (r : Fin 16384) : V m c main_v72 (ix2 i r) = SINA (ix2 r i) := by
  unfold SINA ANGA
  unfold_abbrev_sides
  after_reads_at

/-- The table of window 12 is transposed. -/
theorem row_12 (c : Dev nD) (i : Fin 8) (r : Fin 16384) : V m c main_v73 (ix2 i r) = COSI (ix2 r i) := by
  unfold COSI ANGI
  unfold_abbrev_sides
  after_reads_at

/-- The table of window 13 is transposed. -/
theorem row_13 (c : Dev nD) (i : Fin 8) (r : Fin 16384) : V m c main_v74 (ix2 i r) = SINI (ix2 r i) := by
  unfold SINI ANGI
  unfold_abbrev_sides
  after_reads_at

/-- Window 4 moves down the lane table. -/
theorem iblk_4 (c : Dev nD) (t : Fin cfg0.N) (r : Fin 512) (l : Fin 128) : iblk m c 4 t (ix2 r l)
    = V m c main_v56 (ix2 (⟨512 * t.val + r, by have : t.val < 32 := t.isLt; omega⟩ : Fin 16384) l) :=
  congrArg (V m c main_v56) (show ((cfg0.win 4).blk t).view.emb (ix2 r l)
    = ix2 (⟨512 * t.val + r, by have : t.val < 32 := t.isLt; omega⟩ : Fin 16384) l by blk_point [idx t])

/-- Window 5 moves down the lane table. -/
theorem iblk_5 (c : Dev nD) (t : Fin cfg0.N) (r : Fin 512) (l : Fin 128) : iblk m c 5 t (ix2 r l)
    = V m c main_v59 (ix2 (⟨512 * t.val + r, by have : t.val < 32 := t.isLt; omega⟩ : Fin 16384) l) :=
  congrArg (V m c main_v59) (show ((cfg0.win 5).blk t).view.emb (ix2 r l)
    = ix2 (⟨512 * t.val + r, by have : t.val < 32 := t.isLt; omega⟩ : Fin 16384) l by blk_point [idx t])

/-- Window 6 moves down the lane table. -/
theorem iblk_6 (c : Dev nD) (t : Fin cfg0.N) (r : Fin 512) (l : Fin 128) : iblk m c 6 t (ix2 r l)
    = V m c main_v62 (ix2 (⟨512 * t.val + r, by have : t.val < 32 := t.isLt; omega⟩ : Fin 16384) l) :=
  congrArg (V m c main_v62) (show ((cfg0.win 6).blk t).view.emb (ix2 r l)
    = ix2 (⟨512 * t.val + r, by have : t.val < 32 := t.isLt; omega⟩ : Fin 16384) l by blk_point [idx t])

/-- Window 7 moves down the lane table. -/
theorem iblk_7 (c : Dev nD) (t : Fin cfg0.N) (r : Fin 512) (l : Fin 128) : iblk m c 7 t (ix2 r l)
    = V m c main_v64 (ix2 (⟨512 * t.val + r, by have : t.val < 32 := t.isLt; omega⟩ : Fin 16384) l) :=
  congrArg (V m c main_v64) (show ((cfg0.win 7).blk t).view.emb (ix2 r l)
    = ix2 (⟨512 * t.val + r, by have : t.val < 32 := t.isLt; omega⟩ : Fin 16384) l by blk_point [idx t])

/-- Window 8 moves down the lane table. -/
theorem iblk_8 (c : Dev nD) (t : Fin cfg0.N) (r : Fin 512) (l : Fin 128) : iblk m c 8 t (ix2 r l)
    = V m c main_v67 (ix2 (⟨512 * t.val + r, by have : t.val < 32 := t.isLt; omega⟩ : Fin 16384) l) :=
  congrArg (V m c main_v67) (show ((cfg0.win 8).blk t).view.emb (ix2 r l)
    = ix2 (⟨512 * t.val + r, by have : t.val < 32 := t.isLt; omega⟩ : Fin 16384) l by blk_point [idx t])

/-- Window 9 moves down the lane table. -/
theorem iblk_9 (c : Dev nD) (t : Fin cfg0.N) (r : Fin 512) (l : Fin 128) : iblk m c 9 t (ix2 r l)
    = V m c main_v70 (ix2 (⟨512 * t.val + r, by have : t.val < 32 := t.isLt; omega⟩ : Fin 16384) l) :=
  congrArg (V m c main_v70) (show ((cfg0.win 9).blk t).view.emb (ix2 r l)
    = ix2 (⟨512 * t.val + r, by have : t.val < 32 := t.isLt; omega⟩ : Fin 16384) l by blk_point [idx t])

/-- Window 10 moves along the transposed table. -/
theorem iblk_10 (c : Dev nD) (t : Fin cfg0.N) (i : Fin 16) (r : Fin 512) : iblk m c 10 t (ix2 i r)
    = COSA (ix2 (⟨512 * t.val + r, by have : t.val < 32 := t.isLt; omega⟩ : Fin 16384) i) :=
  (congrArg (V m c main_v71) (show ((cfg0.win 10).blk t).view.emb (ix2 i r)
    = ix2 i (⟨512 * t.val + r, by have : t.val < 32 := t.isLt; omega⟩ : Fin 16384) by blk_point [idx t])).trans (row_10 m c i _)

/-- Window 11 moves along the transposed table. -/
theorem iblk_11 (c : Dev nD) (t : Fin cfg0.N) (i : Fin 16) (r : Fin 512) : iblk m c 11 t (ix2 i r)
    = SINA (ix2 (⟨512 * t.val + r, by have : t.val < 32 := t.isLt; omega⟩ : Fin 16384) i) :=
  (congrArg (V m c main_v72) (show ((cfg0.win 11).blk t).view.emb (ix2 i r)
    = ix2 i (⟨512 * t.val + r, by have : t.val < 32 := t.isLt; omega⟩ : Fin 16384) by blk_point [idx t])).trans (row_11 m c i _)

/-- Window 12 moves along the transposed table. -/
theorem iblk_12 (c : Dev nD) (t : Fin cfg0.N) (i : Fin 8) (r : Fin 512) : iblk m c 12 t (ix2 i r)
    = COSI (ix2 (⟨512 * t.val + r, by have : t.val < 32 := t.isLt; omega⟩ : Fin 16384) i) :=
  (congrArg (V m c main_v73) (show ((cfg0.win 12).blk t).view.emb (ix2 i r)
    = ix2 i (⟨512 * t.val + r, by have : t.val < 32 := t.isLt; omega⟩ : Fin 16384) by blk_point [idx t])).trans (row_12 m c i _)

/-- Window 13 moves along the transposed table. -/
theorem iblk_13 (c : Dev nD) (t : Fin cfg0.N) (i : Fin 8) (r : Fin 512) : iblk m c 13 t (ix2 i r)
    = SINI (ix2 (⟨512 * t.val + r, by have : t.val < 32 := t.isLt; omega⟩ : Fin 16384) i) :=
  (congrArg (V m c main_v74) (show ((cfg0.win 13).blk t).view.emb (ix2 i r)
    = ix2 i (⟨512 * t.val + r, by have : t.val < 32 := t.isLt; omega⟩ : Fin 16384) by blk_point [idx t])).trans (row_13 m c i _)

end Cert.Kernel5Ideal.RefValue

end
-- ==== Proof.EvenInValue.lean ====
/- The input projection of the even layers: the idealized kernel's ten results are the reference's. -/
module

public import proofs.«01_k».proof.Proof.EvenInKernel
public import proofs.«01_k».proof.Proof.EvenInHost
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.RefValue

open Cert.Kernel5Ideal Cert.Kernel5Ideal.Gen Cert.Reference5Ideal.RefValue Cert.OddRow Cert.EvenInRow

variable (m : (ℓ : Loc nD τ sig) → Buf (Elt Ideal) ℓ)

/-- The projected rows of the arguments. -/
abbrev PR (c : Dev nD) : FVec Ideal Cert.Reference5Ideal.S1x16384x6232 .f32 :=
  PROJ (m ((c : Thread nD τ).loc main_arg0)) (m ((c : Thread nD τ).loc main_arg1)) (m ((c : Thread nD τ).loc main_arg2))

/-- Row `r` of grid point `t`'s block is row `512 t + r` of the array. -/
abbrev at_ (t : Fin cfg0.N) (r : Fin 512) : Fin 16384 := ⟨512 * t.val + r.val, by have : t.val < 32 := t.isLt; omega⟩

/-- A block's projection against the columns of the gate. -/
theorem row_z (c : Dev nD) (t : Fin cfg0.N) (r : Fin 512) (j : Fin 1024) :
    rowP (iblk m c 0 t) (iblk m c 1 t) (iblk m c 2 t) r ⟨j.val, by omega⟩ = PR m c (ix3 0 (at_ t r) ⟨j.val, by omega⟩) := by
  refine Eq.trans ?_ (proj_at _ _ _ _ _).symm
  simp only [rowP, iblk_h, iblk_g]
  exact congrArg (lin _ _) (funext fun i => (iblk_wn m c t i _).trans (wn_z m c i j))

/-- A block's projection against the columns of the recurrence's input. -/
theorem row_x (c : Dev nD) (t : Fin cfg0.N) (r : Fin 512) (j : Fin 1536) :
    rowP (iblk m c 0 t) (iblk m c 1 t) (iblk m c 2 t) r ⟨1024 + j.val, by omega⟩ = PR m c (ix3 0 (at_ t r) ⟨1024 + j.val, by omega⟩) := by
  refine Eq.trans ?_ (proj_at _ _ _ _ _).symm
  simp only [rowP, iblk_h, iblk_g]
  exact congrArg (lin _ _) (funext fun i => (iblk_wn m c t i _).trans (wn_x m c i j))

/-- A block's projection against the columns of the keys. -/
theorem row_k (c : Dev nD) (t : Fin cfg0.N) (r : Fin 512) (j : Fin 1024) :
    rowP (iblk m c 0 t) (iblk m c 1 t) (iblk m c 2 t) r ⟨2560 + j.val, by omega⟩ = PR m c (ix3 0 (at_ t r) ⟨3600 + j.val, by omega⟩) := by
  refine Eq.trans ?_ (proj_at _ _ _ _ _).symm
  simp only [rowP, iblk_h, iblk_g]
  exact congrArg (lin _ _) (funext fun i => (iblk_wn m c t i _).trans (wn_k m c i j))

/-- A block's projection against the columns of the index key. -/
theorem row_ki (c : Dev nD) (t : Fin cfg0.N) (r : Fin 512) (j : Fin 64) :
    rowP (iblk m c 0 t) (iblk m c 1 t) (iblk m c 2 t) r ⟨3584 + j.val, by omega⟩ = PR m c (ix3 0 (at_ t r) ⟨6160 + j.val, by omega⟩) := by
  refine Eq.trans ?_ (proj_at _ _ _ _ _).symm
  simp only [rowP, iblk_h, iblk_g]
  exact congrArg (lin _ _) (funext fun i => (iblk_wn m c t i _).trans (wn_ki m c i j))

/-- A block's projection against the columns of the step sizes. -/
theorem row_dt (c : Dev nD) (t : Fin cfg0.N) (r : Fin 512) (j : Fin 16) :
    rowP (iblk m c 0 t) (iblk m c 1 t) (iblk m c 2 t) r ⟨3648 + j.val, by omega⟩ = PR m c (ix3 0 (at_ t r) ⟨2560 + j.val, by omega⟩) := by
  refine Eq.trans ?_ (proj_at _ _ _ _ _).symm
  simp only [rowP, iblk_h, iblk_g]
  exact congrArg (lin _ _) (funext fun i => (iblk_wn m c t i _).trans (wn_dt m c i j))

/-- A block's projection against the columns of zeros. -/
theorem row_pad (c : Dev nD) (t : Fin cfg0.N) (r : Fin 512) (j : Fin 48) :
    rowP (iblk m c 0 t) (iblk m c 1 t) (iblk m c 2 t) r ⟨3664 + j.val, by omega⟩ = 0 := by
  simp only [rowP, lin]
  exact Finset.sum_eq_zero fun i _ => (congrArg (_ * ·) ((iblk_wn m c t i _).trans (wn_pad m c i j))).trans (mul_zero _)

/-- A block's transposed projection against the rows of the queries. -/
theorem col_q (c : Dev nD) (t : Fin cfg0.N) (r : Fin 512) (j : Fin 1024) :
    colP (iblk m c 0 t) (iblk m c 1 t) (iblk m c 3 t) ⟨j.val, by omega⟩ r = PR m c (ix3 0 (at_ t r) ⟨2576 + j.val, by omega⟩) := by
  refine Eq.trans ?_ (proj_at _ _ _ _ _).symm
  simp only [colP, iblk_h, iblk_g]
  exact congrArg (lin _ _) (funext fun i => (iblk_wt m c t _ i).trans (wt_q m c i j))

/-- A block's transposed projection against the rows of the values. -/
theorem col_v (c : Dev nD) (t : Fin cfg0.N) (r : Fin 512) (j : Fin 1024) :
    colP (iblk m c 0 t) (iblk m c 1 t) (iblk m c 3 t) ⟨1024 + j.val, by omega⟩ r = PR m c (ix3 0 (at_ t r) ⟨4624 + j.val, by omega⟩) := by
  refine Eq.trans ?_ (proj_at _ _ _ _ _).symm
  simp only [colP, iblk_h, iblk_g]
  exact congrArg (lin _ _) (funext fun i => (iblk_wt m c t _ i).trans (wt_v m c i j))

/-- A block's transposed projection against the rows of the index queries. -/
theorem col_qi (c : Dev nD) (t : Fin cfg0.N) (r : Fin 512) (j : Fin 512) :
    colP (iblk m c 0 t) (iblk m c 1 t) (iblk m c 3 t) ⟨2048 + j.val, by omega⟩ r = PR m c (ix3 0 (at_ t r) ⟨5648 + j.val, by omega⟩) := by
  refine Eq.trans ?_ (proj_at _ _ _ _ _).symm
  simp only [colP, iblk_h, iblk_g]
  exact congrArg (lin _ _) (funext fun i => (iblk_wt m c t _ i).trans (wt_qi m c i j))

/-- A block's transposed projection against the rows of the index queries' weights. -/
theorem col_wi (c : Dev nD) (t : Fin cfg0.N) (r : Fin 512) (j : Fin 8) :
    colP (iblk m c 0 t) (iblk m c 1 t) (iblk m c 3 t) ⟨2560 + j.val, by omega⟩ r = PR m c (ix3 0 (at_ t r) ⟨6224 + j.val, by omega⟩) := by
  refine Eq.trans ?_ (proj_at _ _ _ _ _).symm
  simp only [colP, iblk_h, iblk_g]
  exact congrArg (lin _ _) (funext fun i => (iblk_wt m c t _ i).trans (wt_wi m c i j))

/-- A block's transposed projection against the rows of the step sizes. -/
theorem col_dt (c : Dev nD) (t : Fin cfg0.N) (r : Fin 512) (j : Fin 16) :
    colP (iblk m c 0 t) (iblk m c 1 t) (iblk m c 3 t) ⟨2576 + j.val, by omega⟩ r = PR m c (ix3 0 (at_ t r) ⟨2560 + j.val, by omega⟩) := by
  refine Eq.trans ?_ (proj_at _ _ _ _ _).symm
  simp only [colP, iblk_h, iblk_g]
  exact congrArg (lin _ _) (funext fun i => (iblk_wt m c t _ i).trans (wt_dt m c i j))

/-- What a grid point stores for the gate, one entry. -/
theorem entry14 (c : Dev nD) (t : Fin cfg0.N) (r : Fin 512) (j : Fin 1024) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j)
      = ZR (PR m c) (ix2 (at_ t r) j) := by
  rw [out14_at, zr_at]
  exact row_z m c t r j

set_option maxHeartbeats 1600000 in
/-- What a grid point stores there, at the entry's place in the result. -/
theorem point14 (c : Dev nD) (t : Fin cfg0.N) (y : S512x1024.Idx) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = ZR (PR m c) (((cfg0.win 14).blk t).view.emb y) := by
  idx_vars y
  exact (entry14 m c t _ _).trans (congrArg (ZR (PR m c)) (by blk_point [idx t]))

/-- The result array of the gate. -/
theorem final14 (c : Dev nD) : (dats m 0 c).arrAt 14 (cfgs 0).N = ZR (PR m c) := by
  refine (dats m 0 c).arrAt_eq_of_covers 14 _ (by decide +kernel) fun t _ y => ?_
  blk_simp
  rw [after0_14]
  exact point14 m c t y

/-- What a grid point stores for the recurrence's input, one entry. -/
theorem entry15 (c : Dev nD) (t : Fin cfg0.N) (r : Fin 512) (j : Fin 1536) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j)
      = XBCR (PR m c) (ix2 (at_ t r) j) := by
  rw [out15_at, xbcr_at]
  exact row_x m c t r j

set_option maxHeartbeats 1600000 in
/-- What a grid point stores there, at the entry's place in the result. -/
theorem point15 (c : Dev nD) (t : Fin cfg0.N) (y : S512x1536.Idx) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = XBCR (PR m c) (((cfg0.win 15).blk t).view.emb y) := by
  idx_vars y
  exact (entry15 m c t _ _).trans (congrArg (XBCR (PR m c)) (by blk_point [idx t]))

/-- The result array of the recurrence's input. -/
theorem final15 (c : Dev nD) : (dats m 0 c).arrAt 15 (cfgs 0).N = XBCR (PR m c) := by
  refine (dats m 0 c).arrAt_eq_of_covers 15 _ (by decide +kernel) fun t _ y => ?_
  blk_simp
  rw [after0_15]
  exact point15 m c t y

/-- What a grid point stores for the index key, the step sizes and zeros, one entry. -/
theorem entry16 (c : Dev nD) (t : Fin cfg0.N) (r : Fin 512) (j : Fin 128) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j)
      = SMALLR (PR m c) (ix2 (at_ t r) j) := by
  rw [out16_at, smallr_at]
  split_ifs with h h'
  · exact row_ki m c t r ⟨j.val, h⟩
  · refine Eq.trans (congrArg _ (Fin.ext ?_)) (row_dt m c t r ⟨j.val - 64, h'⟩)
    show 3584 + j.val = 3648 + (j.val - 64)
    omega
  · refine Eq.trans (congrArg _ (Fin.ext ?_)) (row_pad m c t r ⟨j.val - 80, by omega⟩)
    show 3584 + j.val = 3664 + (j.val - 80)
    omega

set_option maxHeartbeats 1600000 in
/-- What a grid point stores there, at the entry's place in the result. -/
theorem point16 (c : Dev nD) (t : Fin cfg0.N) (y : S512x128.Idx) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = SMALLR (PR m c) (((cfg0.win 16).blk t).view.emb y) := by
  idx_vars y
  exact (entry16 m c t _ _).trans (congrArg (SMALLR (PR m c)) (by blk_point [idx t]))

/-- The result array of the index key, the step sizes and zeros. -/
theorem final16 (c : Dev nD) : (dats m 0 c).arrAt 16 (cfgs 0).N = SMALLR (PR m c) := by
  refine (dats m 0 c).arrAt_eq_of_covers 16 _ (by decide +kernel) fun t _ y => ?_
  blk_simp
  rw [after0_16]
  exact point16 m c t y

/-- What a grid point stores for the keys, one entry. -/
theorem entry17 (c : Dev nD) (t : Fin cfg0.N) (r : Fin 512) (j : Fin 1024) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j)
      = KR (PR m c) COSA SINA (ix2 (at_ t r) j) := by
  rw [out17_at, kr_at, ropeL_eq_ropeA _ (fun k => COSA (ix2 (at_ t r) k)) (fun k => SINA (ix2 (at_ t r) k)) _ _ _
    (fun l => (iblk_4 m c t r l).trans (lane_4 m c _ l)) (fun l => (iblk_5 m c t r l).trans (lane_5 m c _ l))
    (fun l => (iblk_6 m c t r l).trans (lane_6 m c _ l))]
  exact congrArg (fun x => ropeA x _ _ _) (funext fun l => row_k m c t r ⟨j.val / 128 * 128 + l.val, by omega⟩)

set_option maxHeartbeats 1600000 in
/-- What a grid point stores there, at the entry's place in the result. -/
theorem point17 (c : Dev nD) (t : Fin cfg0.N) (y : S512x1024.Idx) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = KR (PR m c) COSA SINA (((cfg0.win 17).blk t).view.emb y) := by
  idx_vars y
  exact (entry17 m c t _ _).trans (congrArg (KR (PR m c) COSA SINA) (by blk_point [idx t]))

/-- The result array of the keys. -/
theorem final17 (c : Dev nD) : (dats m 0 c).arrAt 17 (cfgs 0).N = KR (PR m c) COSA SINA := by
  refine (dats m 0 c).arrAt_eq_of_covers 17 _ (by decide +kernel) fun t _ y => ?_
  blk_simp
  rw [after0_17]
  exact point17 m c t y

/-- What a grid point stores for the index key, one entry. -/
theorem entry18 (c : Dev nD) (t : Fin cfg0.N) (r : Fin 512) (j : Fin 64) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j)
      = KIR (PR m c) COSI SINI (ix2 (at_ t r) j) := by
  rw [out18_at, kir_at, ropeL_eq_ropeI _ (fun k => COSI (ix2 (at_ t r) k)) (fun k => SINI (ix2 (at_ t r) k)) _ _ _
    (fun l => (iblk_7 m c t r l).trans (lane_7 m c _ l)) (fun l => (iblk_8 m c t r l).trans (lane_8 m c _ l))
    (fun l => (iblk_9 m c t r l).trans (lane_9 m c _ l))]
  exact congrArg (fun x => ropeI x _ _ _) (funext fun l => row_ki m c t r l)

set_option maxHeartbeats 1600000 in
/-- What a grid point stores there, at the entry's place in the result. -/
theorem point18 (c : Dev nD) (t : Fin cfg0.N) (y : S512x64.Idx) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = KIR (PR m c) COSI SINI (((cfg0.win 18).blk t).view.emb y) := by
  idx_vars y
  exact (entry18 m c t _ _).trans (congrArg (KIR (PR m c) COSI SINI) (by blk_point [idx t]))

/-- The result array of the index key. -/
theorem final18 (c : Dev nD) : (dats m 0 c).arrAt 18 (cfgs 0).N = KIR (PR m c) COSI SINI := by
  refine (dats m 0 c).arrAt_eq_of_covers 18 _ (by decide +kernel) fun t _ y => ?_
  blk_simp
  rw [after0_18]
  exact point18 m c t y

/-- What a grid point stores for the queries, one entry. -/
theorem entry19 (c : Dev nD) (t : Fin cfg0.N) (j : Fin 1024) (r : Fin 512) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 j r)
      = QTR (PR m c) COSA SINA (ix2 j (at_ t r)) := by
  rw [out19_at, qtr_at]
  simp only [iblk_10, iblk_11]
  exact congrArg (fun x => ropeA x _ _ _ * _) (funext fun l => col_q m c t r ⟨j.val / 128 * 128 + l.val, by omega⟩)

set_option maxHeartbeats 1600000 in
/-- What a grid point stores there, at the entry's place in the result. -/
theorem point19 (c : Dev nD) (t : Fin cfg0.N) (y : S1024x512.Idx) :
    out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = QTR (PR m c) COSA SINA (((cfg0.win 19).blk t).view.emb y) := by
  idx_vars y
  exact (entry19 m c t _ _).trans (congrArg (QTR (PR m c) COSA SINA) (by blk_point [idx t]))

/-- The result array of the queries. -/
theorem final19 (c : Dev nD) : (dats m 0 c).arrAt 19 (cfgs 0).N = QTR (PR m c) COSA SINA := by
  refine (dats m 0 c).arrAt_eq_of_covers 19 _ (by decide +kernel) fun t _ y => ?_
  blk_simp
  rw [after0_19]
  exact point19 m c t y

/-- What a grid point stores for the values, one entry. -/
theorem entry20 (c : Dev nD) (t : Fin cfg0.N) (j : Fin 1024) (r : Fin 512) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 j r)
      = VTR (PR m c) (ix2 j (at_ t r)) := by
  rw [out20_at, vtr_at]
  exact col_v m c t r j

set_option maxHeartbeats 1600000 in
/-- What a grid point stores there, at the entry's place in the result. -/
theorem point20 (c : Dev nD) (t : Fin cfg0.N) (y : S1024x512.Idx) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = VTR (PR m c) (((cfg0.win 20).blk t).view.emb y) := by
  idx_vars y
  exact (entry20 m c t _ _).trans (congrArg (VTR (PR m c)) (by blk_point [idx t]))

/-- The result array of the values. -/
theorem final20 (c : Dev nD) : (dats m 0 c).arrAt 20 (cfgs 0).N = VTR (PR m c) := by
  refine (dats m 0 c).arrAt_eq_of_covers 20 _ (by decide +kernel) fun t _ y => ?_
  blk_simp
  rw [after0_20]
  exact point20 m c t y

/-- What a grid point stores for the index queries, one entry. -/
theorem entry21 (c : Dev nD) (t : Fin cfg0.N) (j : Fin 512) (r : Fin 512) :
    out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 j r)
      = QITR (PR m c) COSI SINI (ix2 j (at_ t r)) := by
  rw [out21_at, qitr_at]
  simp only [iblk_12, iblk_13]
  exact congrArg₂ (fun x w => ropeI x _ _ _ * (w * _)) (funext fun l => col_qi m c t r ⟨j.val / 64 * 64 + l.val, by omega⟩)
    (col_wi m c t r ⟨j.val / 64, by omega⟩)

set_option maxHeartbeats 1600000 in
/-- What a grid point stores there, at the entry's place in the result. -/
theorem point21 (c : Dev nD) (t : Fin cfg0.N) (y : S512x512.Idx) :
    out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = QITR (PR m c) COSI SINI (((cfg0.win 21).blk t).view.emb y) := by
  idx_vars y
  exact (entry21 m c t _ _).trans (congrArg (QITR (PR m c) COSI SINI) (by blk_point [idx t]))

/-- The result array of the index queries. -/
theorem final21 (c : Dev nD) : (dats m 0 c).arrAt 21 (cfgs 0).N = QITR (PR m c) COSI SINI := by
  refine (dats m 0 c).arrAt_eq_of_covers 21 _ (by decide +kernel) fun t _ y => ?_
  blk_simp
  rw [after0_21]
  exact point21 m c t y

/-- What a grid point stores for the bounds, one entry. -/
theorem entry22 (c : Dev nD) (t : Fin cfg0.N) (j : Fin 16) (r : Fin 512) :
    out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 j r)
      = BNDR (PR m c) (ix2 j (at_ t r)) := by
  rw [out22_at, bndr_at]
  by_cases h : j.val < 8
  · have e := col_wi m c t r ⟨j.val, h⟩
    rw [dif_pos h, dif_pos h, e]
  · have e := col_wi m c t r ⟨j.val - 8, by omega⟩
    rw [dif_neg h, dif_neg h, e]

set_option maxHeartbeats 1600000 in
/-- What a grid point stores there, at the entry's place in the result. -/
theorem point22 (c : Dev nD) (t : Fin cfg0.N) (y : S16x512.Idx) :
    out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = BNDR (PR m c) (((cfg0.win 22).blk t).view.emb y) := by
  idx_vars y
  exact (entry22 m c t _ _).trans (congrArg (BNDR (PR m c)) (by blk_point [idx t]))

/-- The result array of the bounds. -/
theorem final22 (c : Dev nD) : (dats m 0 c).arrAt 22 (cfgs 0).N = BNDR (PR m c) := by
  refine (dats m 0 c).arrAt_eq_of_covers 22 _ (by decide +kernel) fun t _ y => ?_
  blk_simp
  rw [after0_22]
  exact point22 m c t y

/-- What a grid point stores for the step sizes, one entry. -/
theorem entry23 (c : Dev nD) (t : Fin cfg0.N) (j : Fin 16) (r : Fin 512) :
    out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 j r)
      = DTTR (PR m c) (ix2 j (at_ t r)) := by
  rw [out23_at, dttr_at]
  exact col_dt m c t r j

set_option maxHeartbeats 1600000 in
/-- What a grid point stores there, at the entry's place in the result. -/
theorem point23 (c : Dev nD) (t : Fin cfg0.N) (y : S16x512.Idx) :
    out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) y = DTTR (PR m c) (((cfg0.win 23).blk t).view.emb y) := by
  idx_vars y
  exact (entry23 m c t _ _).trans (congrArg (DTTR (PR m c)) (by blk_point [idx t]))

/-- The result array of the step sizes. -/
theorem final23 (c : Dev nD) : (dats m 0 c).arrAt 23 (cfgs 0).N = DTTR (PR m c) := by
  refine (dats m 0 c).arrAt_eq_of_covers 23 _ (by decide +kernel) fun t _ y => ?_
  blk_simp
  rw [after0_23]
  exact point23 m c t y

end Cert.Kernel5Ideal.RefValue

end
-- ==== Proof.EvenInRun.lean ====
/- The input projection of the even layers: the idealized kernel's run, its ten results those of the reference. -/
module

public import proofs.«01_k».proof.Proof.EvenInValue
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.RefValue

open Cert.Kernel5Ideal Cert.Kernel5Ideal.Gen Cert.Reference5Ideal.RefValue Cert.OddRow Cert.EvenInRow

variable (m : (ℓ : Loc nD τ sig) → Buf (Elt Ideal) ℓ)

set_option maxHeartbeats 4000000 in
/-- The kernel ends with the reference's ten results in place and its arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v75_0) = ZR (PR m c)
      ∧ r.2.mem ((c.tc : Thread nD τ).loc main_v75_1) = XBCR (PR m c)
      ∧ r.2.mem ((c.tc : Thread nD τ).loc main_v75_2) = SMALLR (PR m c)
      ∧ r.2.mem ((c.tc : Thread nD τ).loc main_v75_3) = KR (PR m c) COSA SINA
      ∧ r.2.mem ((c.tc : Thread nD τ).loc main_v75_4) = KIR (PR m c) COSI SINI
      ∧ r.2.mem ((c.tc : Thread nD τ).loc main_v75_5) = QTR (PR m c) COSA SINA
      ∧ r.2.mem ((c.tc : Thread nD τ).loc main_v75_6) = VTR (PR m c)
      ∧ r.2.mem ((c.tc : Thread nD τ).loc main_v75_7) = QITR (PR m c) COSI SINI
      ∧ r.2.mem ((c.tc : Thread nD τ).loc main_v75_8) = BNDR (PR m c)
      ∧ r.2.mem ((c.tc : Thread nD τ).loc main_v75_9) = DTTR (PR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 14).trans (final14 m c), ((h.1 c).1 15).trans (final15 m c), ((h.1 c).1 16).trans (final16 m c),
    ((h.1 c).1 17).trans (final17 m c), ((h.1 c).1 18).trans (final18 m c), ((h.1 c).1 19).trans (final19 m c),
    ((h.1 c).1 20).trans (final20 m c), ((h.1 c).1 21).trans (final21 m c), ((h.1 c).1 22).trans (final22 m c),
    ((h.1 c).1 23).trans (final23 m c), h.2 c⟩)
    (θ_run_and (run_main m ρ) (unchanged m ρ))

end Cert.Kernel5Ideal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.OddValue
public import proofs.«01_k».proof.Proof.FfnValue
public import proofs.«01_k».proof.Proof.FfnFinalValue
public import proofs.«01_k».proof.Proof.EvenInFrame
public import proofs.«01_k».proof.Proof.EvenInFrameIdeal
public import proofs.«01_k».proof.Proof.EvenOutValue
public import proofs.«01_k».proof.Proof.EvenInRefRun
public import proofs.«01_k».proof.Proof.EvenInRun
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The gated mixer: the idealized kernel computes the reference. -/
theorem algebraic : Cert.algebraic_KernelIdeal_ReferenceIdeal := by
  pair_intro
  · run_from Cert.KernelIdeal.Gen.run_main m g
  · have hr := Cert.ReferenceIdeal.Value.run m' g'
    simp only [Cert.ReferenceIdeal.RefValue.res_eq] at hr
    run_from hr
    exact (Cert.KernelIdeal.RefValue.final m c).symm

/-- The feed-forward half-step with the closing norm: the idealized kernel computes the reference. -/
theorem algebraic2 : Cert.algebraic_Kernel2Ideal_Reference2Ideal := by
  pair_intro
  · run_from Cert.Kernel2Ideal.Gen.run_main m g
  · have hr := Cert.Reference2Ideal.Value.run m' g'
    simp only [Cert.Kernel2Ideal.RefValue.res_eq] at hr
    run_from hr
    exact (Cert.Kernel2Ideal.RefValue.final m c).symm

/-- The feed-forward half-step: the idealized kernel computes the reference. -/
theorem algebraic3 : Cert.algebraic_Kernel3Ideal_Reference3Ideal := by
  pair_intro
  · run_from Cert.Kernel3Ideal.Gen.run_main m g
  · run_from Cert.Reference3Ideal.Value.run m' g'
    exact (Cert.Kernel3Ideal.RefValue.final m c).symm

/-- The output projection of the even layers: the idealized kernel computes the reference. -/
theorem algebraic6 : Cert.algebraic_Kernel6Ideal_Reference6Ideal := by
  pair_intro
  · run_from Cert.Kernel6Ideal.Gen.run_main m g
  · run_from Cert.Reference6Ideal.Value.run m' g'
    refine Eq.trans ?_ (Cert.Kernel6Ideal.RefValue.final m c).symm
    show Cert.Reference6Ideal.RefValue.REF _ (m' ((c.tc : Thread _ _).loc Cert.Reference6Ideal.main_arg1))
      (m' ((c.tc : Thread _ _).loc Cert.Reference6Ideal.main_arg2)) _ = _
    rw [(hagree c).2.1, (hagree c).2.2.1]

/-- The input projection of the even layers: the idealized kernel computes the reference, all ten results. -/
theorem algebraic5 : Cert.algebraic_Kernel5Ideal_Reference5Ideal := fun m g m' g' _ hagree =>
  ⟨_, _, _, _, _, _, _, _, _, _, Cert.Kernel5Ideal.RefValue.run m g, (θ_run Cert.Reference5Ideal.defs _ _).mono (fun r h c => by
    have e := h c
    have hp : Cert.Reference5Ideal.RefValue.PM m' c = Cert.Kernel5Ideal.RefValue.PR m c := by
      show Cert.Reference5Ideal.RefValue.PROJ _ _ _ = Cert.Reference5Ideal.RefValue.PROJ _ _ _
      rw [(hagree c).1, (hagree c).2.1, (hagree c).2.2]
    rw [hp] at e
    exact e) (Cert.Reference5Ideal.RefValue.run m' g')⟩

/-- The mixer's reference ends, and writes none of its arguments. -/
theorem frame_ref : Cert.quiescent_ReferenceIdeal := fun m g _ =>
  (θ_run Cert.ReferenceIdeal.defs _ _).mono
    (fun r h => ⟨fun c => (h c).2, Idealize.ShloMosaic.sem_eq_zero_of_no_sems (by decide) r.2⟩) (Cert.ReferenceIdeal.Value.run m g)

/-- The half-step's reference with the closing norm ends, and writes none of its arguments. -/
theorem frame_ref2 : Cert.quiescent_Reference2Ideal := fun m g _ =>
  (θ_run Cert.Reference2Ideal.defs _ _).mono
    (fun r h => ⟨fun c => (h c).2, Idealize.ShloMosaic.sem_eq_zero_of_no_sems (by decide) r.2⟩) (Cert.Reference2Ideal.Value.run m g)

/-- The half-step's reference ends, and writes none of its arguments. -/
theorem frame_ref3 : Cert.quiescent_Reference3Ideal := fun m g _ =>
  (θ_run Cert.Reference3Ideal.defs _ _).mono
    (fun r h => ⟨fun c => (h c).2, Idealize.ShloMosaic.sem_eq_zero_of_no_sems (by decide) r.2⟩) (Cert.Reference3Ideal.Value.run m g)

/-- The input projection's reference ends, and writes none of its arguments. -/
theorem frame_ref5 : Cert.quiescent_Reference5Ideal := fun m g _ =>
  (θ_run Cert.Reference5Ideal.defs _ _).mono
    (fun r h => ⟨fun c => (h c).2.2.2.2.2.2.2.2.2.2, Idealize.ShloMosaic.sem_eq_zero_of_no_sems (by decide) r.2⟩) (Cert.Reference5Ideal.Value.run m g)

/-- The output projection's reference ends, and writes none of its arguments. -/
theorem frame_ref6 : Cert.quiescent_Reference6Ideal := fun m g _ =>
  (θ_run Cert.Reference6Ideal.defs _ _).mono
    (fun r h => ⟨fun c => (h c).2, Idealize.ShloMosaic.sem_eq_zero_of_no_sems (by decide) r.2⟩) (Cert.Reference6Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  fun m ρ _ => Cert.Kernel.Gen.frame m ρ, fun m ρ _ => Cert.KernelIdeal.Gen.frame m ρ, frame_ref,
  fun m ρ _ => Cert.Kernel2.Gen.frame m ρ, fun m ρ _ => Cert.Kernel2Ideal.Gen.frame m ρ, frame_ref2,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ,
  fun m ρ _ => Cert.Kernel5.Gen.frame m ρ, fun m ρ _ => Cert.Kernel5Ideal.Gen.frame m ρ, frame_ref5,
  fun m ρ _ => Cert.Kernel6.Gen.frame m ρ, fun m ρ _ => Cert.Kernel6Ideal.Gen.frame m ρ, frame_ref6,
  trivial, algebraic, trivial, algebraic2, trivial, algebraic3, trivial, trivial, algebraic5, trivial, algebraic6⟩

end Cert.Proof

end
